-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_ordered [hPre_segments_ordered : Cert.Pre_segments_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_segments_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_ordered [hPre_segments_ordered : Cert.Pre_segments_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_segments_ordered [hKernelIdeal : Cert.KernelIdeal.Facts] [hPre_segments_ordered : Cert.Pre_segments_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_segments_ordered [hReferenceIdeal : Cert.ReferenceIdeal.Facts] [hPre_segments_ordered : Cert.Pre_segments_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_segments_ordered [hKernelIdeal : Cert.KernelIdeal.Facts] [hReferenceIdeal : Cert.ReferenceIdeal.Facts] [hPre_segments_ordered : Cert.Pre_segments_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_segments_ordered : Cert.Pre_segments_ordered.Facts),
    quiescent_Kernel (hKernel := hKernel)
    ∧ quiescent_KernelIdeal (hKernelIdeal := hKernelIdeal)
    ∧ quiescent_KernelIdeal_pre_segments_ordered (hKernelIdeal := hKernelIdeal) (hPre_segments_ordered := hPre_segments_ordered)
    ∧ quiescent_ReferenceIdeal (hReferenceIdeal := hReferenceIdeal)
    ∧ quiescent_ReferenceIdeal_pre_segments_ordered (hReferenceIdeal := hReferenceIdeal) (hPre_segments_ordered := hPre_segments_ordered)
    ∧ preserves_Kernel_KernelIdeal
    ∧ algebraic_KernelIdeal_ReferenceIdeal_pre_segments_ordered (hKernelIdeal := hKernelIdeal) (hReferenceIdeal := hReferenceIdeal) (hPre_segments_ordered := hPre_segments_ordered)
-- ==== Pre_segments_ordered.lean ====
abbrev S65536x3 : Shape := ⟨2, ![65536, 3]⟩
abbrev S65536x32 : Shape := ⟨2, ![65536, 32]⟩
abbrev S_ : Shape := ⟨0, ![]⟩

class Facts : Prop where
  bcast_S_S65536x32 : S_.BroadcastsInDim S65536x32 (![] : Fin 0 → Fin S65536x32.rank)

variable [Facts]

def fn {F : FTy → Type} [FloatOps F] (main_arg0 : FVec F S65536x3 .f32) (main_arg1 : FVec F S65536x3 .f32) (main_arg2 : IVec S65536x32 32) (main_arg3 : FVec F S65536x32 .f32) (main_arg4 : FVec F S65536x32 .f32) : IVec S65536x32 1 :=
  let main_v0 : FVec F S65536x32 .f32 := Host.absf main_arg3
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_v3 : FVec F S65536x32 .f32 := Host.absf main_arg4
  let main_cst_0 : FVec F S_ .f32 := constant S_ .f32 0x7F800000#32
  let main_v4 : FVec F S65536x32 .f32 := broadcastInDim S65536x32 ![] bcast_S_S65536x32 main_cst_0
  let main_v5 : IVec S65536x32 1 := cmpf .olt main_v3 main_v4
  let main_v6 : IVec S65536x32 1 := andi main_v2 main_v5
  let main_c : IVec S_ 32 := constantI S_ 32 4294967295#32
  let main_v7 : IVec S65536x32 32 := broadcastInDim S65536x32 ![] bcast_S_S65536x32 main_c
  let main_v8 : IVec S65536x32 1 := cmpi .eq main_arg2 main_v7
  let main_v9 : IVec S65536x32 1 := cmpf .ole main_arg3 main_arg4
  let main_v10 : IVec S65536x32 1 := ori main_v8 main_v9
  let main_v11 : IVec S65536x32 1 := andi main_v6 main_v10
  main_v11
-- ==== Kernel.lean ====
abbrev S65536x3 : Shape := ⟨2, ![65536, 3]⟩
abbrev S65536x32 : Shape := ⟨2, ![65536, 32]⟩
abbrev S3x65536 : Shape := ⟨2, ![3, 65536]⟩
abbrev S32x65536 : Shape := ⟨2, ![32, 65536]⟩
abbrev S480x65536 : Shape := ⟨2, ![480, 65536]⟩
abbrev S160x65536 : Shape := ⟨2, ![160, 65536]⟩
abbrev S3x2048 : Shape := ⟨2, ![3, 2048]⟩
abbrev S32x2048 : Shape := ⟨2, ![32, 2048]⟩
abbrev S480x2048 : Shape := ⟨2, ![480, 2048]⟩
abbrev S160x2048 : Shape := ⟨2, ![160, 2048]⟩
abbrev S32x128 : Shape := ⟨2, ![32, 128]⟩
abbrev S128 : Shape := ⟨1, ![128]⟩
abbrev S1x128 : Shape := ⟨2, ![1, 128]⟩
abbrev S31x128 : Shape := ⟨2, ![31, 128]⟩
abbrev S2x128 : Shape := ⟨2, ![2, 128]⟩
abbrev S30x128 : Shape := ⟨2, ![30, 128]⟩
abbrev S4x128 : Shape := ⟨2, ![4, 128]⟩
abbrev S28x128 : Shape := ⟨2, ![28, 128]⟩
abbrev S8x128 : Shape := ⟨2, ![8, 128]⟩
abbrev S24x128 : Shape := ⟨2, ![24, 128]⟩
abbrev S16x128 : Shape := ⟨2, ![16, 128]⟩
abbrev S128x128 : Shape := ⟨2, ![128, 128]⟩
abbrev S127x128 : Shape := ⟨2, ![127, 128]⟩
abbrev S3x128 : Shape := ⟨2, ![3, 128]⟩
abbrev S3x160x65536 : Shape := ⟨3, ![3, 160, 65536]⟩
abbrev S65536x160x3 : Shape := ⟨3, ![65536, 160, 3]⟩
abbrev S65536x160 : Shape := ⟨2, ![65536, 160]⟩

abbrev nBuf : Space → Nat
  | .hbm => 19
  | .vmem => 18
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536x32, .i32⟩
  | .hbm, ⟨3, _⟩ => ⟨S65536x32, .f32⟩
  | .hbm, ⟨4, _⟩ => ⟨S65536x32, .f32⟩
  | .hbm, ⟨5, _⟩ => ⟨S3x65536, .f32⟩
  | .hbm, ⟨6, _⟩ => ⟨S3x65536, .f32⟩
  | .hbm, ⟨7, _⟩ => ⟨S32x65536, .i32⟩
  | .hbm, ⟨8, _⟩ => ⟨S32x65536, .f32⟩
  | .hbm, ⟨9, _⟩ => ⟨S32x65536, .f32⟩
  | .hbm, ⟨10, _⟩ => ⟨S480x65536, .f32⟩
  | .hbm, ⟨11, _⟩ => ⟨S160x65536, .i32⟩
  | .hbm, ⟨12, _⟩ => ⟨S160x65536, .f32⟩
  | .hbm, ⟨13, _⟩ => ⟨S160x65536, .f32⟩
  | .hbm, ⟨14, _⟩ => ⟨S3x160x65536, .f32⟩
  | .hbm, ⟨15, _⟩ => ⟨S65536x160x3, .f32⟩
  | .hbm, ⟨16, _⟩ => ⟨S65536x160, .i32⟩
  | .hbm, ⟨17, _⟩ => ⟨S65536x160, .f32⟩
  | .hbm, ⟨18, _⟩ => ⟨S65536x160, .f32⟩
  | .local _ .vmem, ⟨0, _⟩ => ⟨S3x2048, .f32⟩
  | .local _ .vmem, ⟨1, _⟩ => ⟨S3x2048, .f32⟩
  | .local _ .vmem, ⟨2, _⟩ => ⟨S3x2048, .f32⟩
  | .local _ .vmem, ⟨3, _⟩ => ⟨S3x2048, .f32⟩
  | .local _ .vmem, ⟨4, _⟩ => ⟨S32x2048, .i32⟩
  | .local _ .vmem, ⟨5, _⟩ => ⟨S32x2048, .i32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S480x2048, .f32⟩
  | .local _ .vmem, ⟨11, _⟩ => ⟨S480x2048, .f32⟩
  | .local _ .vmem, ⟨12, _⟩ => ⟨S160x2048, .i32⟩
  | .local _ .vmem, ⟨13, _⟩ => ⟨S160x2048, .i32⟩
  | .local _ .vmem, ⟨14, _⟩ => ⟨S160x2048, .f32⟩
  | .local _ .vmem, ⟨15, _⟩ => ⟨S160x2048, .f32⟩
  | .local _ .vmem, ⟨16, _⟩ => ⟨S160x2048, .f32⟩
  | .local _ .vmem, ⟨17, _⟩ => ⟨S160x2048, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S65536x3 : Shape := ⟨2, ![65536, 3]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S65536x160 : Shape := ⟨2, ![65536, 160]⟩
abbrev S160 : Shape := ⟨1, ![160]⟩
abbrev S1x160 : Shape := ⟨2, ![1, 160]⟩
abbrev S65536x1x32 : Shape := ⟨3, ![65536, 1, 32]⟩
abbrev S65536x160x1 : Shape := ⟨3, ![65536, 160, 1]⟩
abbrev S65536x160x32 : Shape := ⟨3, ![65536, 160, 32]⟩
abbrev S65536x31 : Shape := ⟨2, ![65536, 31]⟩
abbrev S1 : Shape := ⟨1, ![1]⟩
abbrev S1x1x1 : Shape := ⟨3, ![1, 1, 1]⟩
abbrev S65536x159 : Shape := ⟨2, ![65536, 159]⟩
abbrev S65536x1x3 : Shape := ⟨3, ![65536, 1, 3]⟩
abbrev S65536x160x3 : Shape := ⟨3, ![65536, 160, 3]⟩

abbrev nBuf : Space → Nat
  | .hbm => 212
  | .vmem => 0
  | .smem => 0
  | _ => 0

abbrev hbmTy0_0 (i : Nat) : BufTy := match i % 128 with
  | 0 => ⟨S65536x3, .f32⟩
  | 1 => ⟨S65536x3, .f32⟩
  | 2 => ⟨S65536x32, .i32⟩
  | 3 => ⟨S65536x32, .f32⟩
  | 4 => ⟨S65536x32, .f32⟩
  | 5 => ⟨S_, .i32⟩
  | 6 => ⟨S65536x32, .i32⟩
  | 7 => ⟨S65536x32, .i1⟩
  | 8 => ⟨S65536x32, .f32⟩
  | 9 => ⟨S_, .f32⟩
  | 10 => ⟨S_, .f32⟩
  | 11 => ⟨S65536x32, .f32⟩
  | 12 => ⟨S65536x32, .f32⟩
  | 13 => ⟨S_, .f32⟩
  | 14 => ⟨S65536, .f32⟩
  | 15 => ⟨S65536x1, .f32⟩
  | 16 => ⟨S65536x32, .f32⟩
  | 17 => ⟨S65536x32, .f32⟩
  | 18 => ⟨S_, .i32⟩
  | 19 => ⟨S65536, .i32⟩
  | 20 => ⟨S_, .f32⟩
  | 21 => ⟨S65536x160, .f32⟩
  | 22 => ⟨S160, .i32⟩
  | 23 => ⟨S160, .f32⟩
  | 24 => ⟨S1x160, .f32⟩
  | 25 => ⟨S65536x160, .f32⟩
  | 26 => ⟨S65536x160, .f32⟩
  | 27 => ⟨S65536x1, .i32⟩
  | 28 => ⟨S65536x1, .f32⟩
  | 29 => ⟨S65536x160, .f32⟩
  | 30 => ⟨S65536x160, .f32⟩
  | 31 => ⟨S_, .f32⟩
  | 32 => ⟨S_, .f32⟩
  | 33 => ⟨S65536x32, .f32⟩
  | 34 => ⟨S65536x1x32, .f32⟩
  | 35 => ⟨S65536x160x1, .f32⟩
  | 36 => ⟨S65536x160x32, .f32⟩
  | 37 => ⟨S65536x160x32, .f32⟩
  | 38 => ⟨S65536x160x32, .i1⟩
  | 39 => ⟨S65536x160x32, .i32⟩
  | 40 => ⟨S_, .i32⟩
  | 41 => ⟨S65536x160, .i32⟩
  | 42 => ⟨S_, .i32⟩
  | 43 => ⟨S_, .i32⟩
  | 44 => ⟨S_, .i32⟩
  | 45 => ⟨S65536x160, .i32⟩
  | 46 => ⟨S65536x160, .i32⟩
  | 47 => ⟨S_, .i32⟩
  | 48 => ⟨S65536x160, .i32⟩
  | 49 => ⟨S65536x160, .i32⟩
  | 50 => ⟨S_, .f32⟩
  | 51 => ⟨S65536x1, .f32⟩
  | 52 => ⟨S65536x31, .f32⟩
  | 53 => ⟨S65536x32, .f32⟩
  | 54 => ⟨S_, .i32⟩
  | 55 => ⟨S65536x160, .i32⟩
  | 56 => ⟨S65536x160, .i1⟩
  | 57 => ⟨S_, .i32⟩
  | 58 => ⟨S65536x160, .i32⟩
  | 59 => ⟨S65536x160, .i32⟩
  | 60 => ⟨S65536x160, .i32⟩
  | 61 => ⟨S65536x160x1, .i32⟩
  | 62 => ⟨S1, .i32⟩
  | 63 => ⟨S_, .i32⟩
  | 64 => ⟨S65536x160x1, .i32⟩
  | 65 => ⟨S65536x160x1, .i1⟩
  | 66 => ⟨S1x1x1, .i32⟩
  | 67 => ⟨S65536x160x1, .i32⟩
  | 68 => ⟨S65536x160x1, .i1⟩
  | 69 => ⟨S65536x160x1, .i1⟩
  | 70 => ⟨S_, .i1⟩
  | 71 => ⟨S65536x160, .i1⟩
  | 72 => ⟨S65536x160, .f32⟩
  | 73 => ⟨S_, .f32⟩
  | 74 => ⟨S65536x160, .f32⟩
  | 75 => ⟨S65536x160, .f32⟩
  | 76 => ⟨S_, .i32⟩
  | 77 => ⟨S65536x160, .i32⟩
  | 78 => ⟨S65536x160, .i1⟩
  | 79 => ⟨S_, .i32⟩
  | 80 => ⟨S65536x160, .i32⟩
  | 81 => ⟨S65536x160, .i32⟩
  | 82 => ⟨S65536x160, .i32⟩
  | 83 => ⟨S65536x160x1, .i32⟩
  | 84 => ⟨S1, .i32⟩
  | 85 => ⟨S_, .i32⟩
  | 86 => ⟨S65536x160x1, .i32⟩
  | 87 => ⟨S65536x160x1, .i1⟩
  | 88 => ⟨S1x1x1, .i32⟩
  | 89 => ⟨S65536x160x1, .i32⟩
  | 90 => ⟨S65536x160x1, .i1⟩
  | 91 => ⟨S65536x160x1, .i1⟩
  | 92 => ⟨S_, .i1⟩
  | 93 => ⟨S65536x160, .i1⟩
  | 94 => ⟨S65536x160, .f32⟩
  | 95 => ⟨S_, .f32⟩
  | 96 => ⟨S65536x160, .f32⟩
  | 97 => ⟨S65536x160, .f32⟩
  | 98 => ⟨S_, .i32⟩
  | 99 => ⟨S65536x160, .i32⟩
  | 100 => ⟨S65536x160, .i1⟩
  | 101 => ⟨S_, .i32⟩
  | 102 => ⟨S65536x160, .i32⟩
  | 103 => ⟨S65536x160, .i32⟩
  | 104 => ⟨S65536x160, .i32⟩
  | 105 => ⟨S65536x160x1, .i32⟩
  | 106 => ⟨S1, .i32⟩
  | 107 => ⟨S_, .i32⟩
  | 108 => ⟨S65536x160x1, .i32⟩
  | 109 => ⟨S65536x160x1, .i1⟩
  | 110 => ⟨S1x1x1, .i32⟩
  | 111 => ⟨S65536x160x1, .i32⟩
  | 112 => ⟨S65536x160x1, .i1⟩
  | 113 => ⟨S65536x160x1, .i1⟩
  | 114 => ⟨S_, .i1⟩
  | 115 => ⟨S65536x160, .i1⟩
  | 116 => ⟨S65536x160, .f32⟩
  | 117 => ⟨S_, .f32⟩
  | 118 => ⟨S65536x160, .f32⟩
  | 119 => ⟨S65536x160, .f32⟩
  | 120 => ⟨S_, .i32⟩
  | 121 => ⟨S65536x160, .i32⟩
  | 122 => ⟨S65536x160, .i1⟩
  | 123 => ⟨S_, .i32⟩
  | 124 => ⟨S65536x160, .i32⟩
  | 125 => ⟨S65536x160, .i32⟩
  | 126 => ⟨S65536x160, .i32⟩
  | 127 => ⟨S65536x160x1, .i32⟩
  | _ => ⟨S65536x3, .f32⟩

abbrev hbmTy0_1 (i : Nat) : BufTy := match i % 128 with
  | 0 => ⟨S1, .i32⟩
  | 1 => ⟨S_, .i32⟩
  | 2 => ⟨S65536x160x1, .i32⟩
  | 3 => ⟨S65536x160x1, .i1⟩
  | 4 => ⟨S1x1x1, .i32⟩
  | 5 => ⟨S65536x160x1, .i32⟩
  | 6 => ⟨S65536x160x1, .i1⟩
  | 7 => ⟨S65536x160x1, .i1⟩
  | 8 => ⟨S_, .i1⟩
  | 9 => ⟨S65536x160, .i1⟩
  | 10 => ⟨S65536x160, .f32⟩
  | 11 => ⟨S_, .f32⟩
  | 12 => ⟨S65536x160, .f32⟩
  | 13 => ⟨S65536x160, .f32⟩
  | 14 => ⟨S65536x160, .f32⟩
  | 15 => ⟨S_, .f32⟩
  | 16 => ⟨S65536x160, .f32⟩
  | 17 => ⟨S65536x160, .f32⟩
  | 18 => ⟨S65536x160, .f32⟩
  | 19 => ⟨S65536x160, .f32⟩
  | 20 => ⟨S65536x160, .f32⟩
  | 21 => ⟨S65536x160, .f32⟩
  | 22 => ⟨S_, .i32⟩
  | 23 => ⟨S65536x160, .i32⟩
  | 24 => ⟨S65536x160, .i1⟩
  | 25 => ⟨S_, .i32⟩
  | 26 => ⟨S65536x160, .i32⟩
  | 27 => ⟨S65536x160, .i32⟩
  | 28 => ⟨S65536x160, .i32⟩
  | 29 => ⟨S65536x160x1, .i32⟩
  | 30 => ⟨S1, .i32⟩
  | 31 => ⟨S_, .i32⟩
  | 32 => ⟨S65536x160x1, .i32⟩
  | 33 => ⟨S65536x160x1, .i1⟩
  | 34 => ⟨S1x1x1, .i32⟩
  | 35 => ⟨S65536x160x1, .i32⟩
  | 36 => ⟨S65536x160x1, .i1⟩
  | 37 => ⟨S65536x160x1, .i1⟩
  | 38 => ⟨S_, .i1⟩
  | 39 => ⟨S65536x160, .i1⟩
  | 40 => ⟨S65536x160, .i32⟩
  | 41 => ⟨S_, .i32⟩
  | 42 => ⟨S65536x160, .i32⟩
  | 43 => ⟨S65536x160, .i32⟩
  | 44 => ⟨S160, .i32⟩
  | 45 => ⟨S1x160, .i32⟩
  | 46 => ⟨S65536x1, .i32⟩
  | 47 => ⟨S65536x160, .i32⟩
  | 48 => ⟨S65536x160, .i32⟩
  | 49 => ⟨S65536x160, .i1⟩
  | 50 => ⟨S65536x159, .f32⟩
  | 51 => ⟨S65536x1, .f32⟩
  | 52 => ⟨S65536x160, .f32⟩
  | 53 => ⟨S65536x1, .f32⟩
  | 54 => ⟨S65536x159, .f32⟩
  | 55 => ⟨S65536x160, .f32⟩
  | 56 => ⟨S65536x160, .f32⟩
  | 57 => ⟨S_, .f32⟩
  | 58 => ⟨S65536x160, .f32⟩
  | 59 => ⟨S65536x160, .f32⟩
  | 60 => ⟨S_, .f32⟩
  | 61 => ⟨S_, .f32⟩
  | 62 => ⟨S65536x160, .f32⟩
  | 63 => ⟨S65536x160, .f32⟩
  | 64 => ⟨S_, .i32⟩
  | 65 => ⟨S_, .i32⟩
  | 66 => ⟨S65536x160, .i32⟩
  | 67 => ⟨S65536x160, .i32⟩
  | 68 => ⟨S_, .f32⟩
  | 69 => ⟨S_, .f32⟩
  | 70 => ⟨S65536x160, .f32⟩
  | 71 => ⟨S65536x160, .f32⟩
  | 72 => ⟨S_, .f32⟩
  | 73 => ⟨S_, .f32⟩
  | 74 => ⟨S65536x160, .f32⟩
  | 75 => ⟨S65536x160, .f32⟩
  | 76 => ⟨S65536x1x3, .f32⟩
  | 77 => ⟨S65536x160x1, .f32⟩
  | 78 => ⟨S65536x1x3, .f32⟩
  | 79 => ⟨S65536x160x3, .f32⟩
  | 80 => ⟨S65536x160x3, .f32⟩
  | 81 => ⟨S65536x160x3, .f32⟩
  | 82 => ⟨S65536x160x3, .f32⟩
  | 83 => ⟨S65536x160x3, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_call0_cst : Ref sig .tc := ⟨.hbm, 31, rfl⟩
abbrev main_call1_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_c_4 : Ref sig .tc := ⟨.hbm, 42, rfl⟩
abbrev main_c_5 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_cst : Ref sig .tc := ⟨.hbm, 73, rfl⟩
abbrev main_call3_v14 : Ref sig .tc := ⟨.hbm, 74, rfl⟩
abbrev main_v31 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_c_1 : Ref sig .tc := ⟨.hbm, 84, rfl⟩
abbrev main_call4_c_2 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_3 : Ref sig .tc := ⟨.hbm, 92, rfl⟩
abbrev main_call4_v12 : Ref sig .tc := ⟨.hbm, 93, rfl⟩
abbrev main_call4_v13 : Ref sig .tc := ⟨.hbm, 94, rfl⟩
abbrev main_call4_cst : Ref sig .tc := ⟨.hbm, 95, rfl⟩
abbrev main_call4_v14 : Ref sig .tc := ⟨.hbm, 96, rfl⟩
abbrev main_v32 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_cst : Ref sig .tc := ⟨.hbm, 117, rfl⟩
abbrev main_call5_v14 : Ref sig .tc := ⟨.hbm, 118, rfl⟩
abbrev main_v33 : Ref sig .tc := ⟨.hbm, 119, rfl⟩
abbrev main_call6_c : Ref sig .tc := ⟨.hbm, 120, rfl⟩
abbrev main_call6_v0 : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_c_1 : Ref sig .tc := ⟨.hbm, 128, rfl⟩
abbrev main_call6_c_2 : Ref sig .tc := ⟨.hbm, 129, rfl⟩
abbrev main_call6_v6 : Ref sig .tc := ⟨.hbm, 130, rfl⟩
abbrev main_call6_v7 : Ref sig .tc := ⟨.hbm, 131, rfl⟩
abbrev main_call6_v8 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_3 : Ref sig .tc := ⟨.hbm, 136, rfl⟩
abbrev main_call6_v12 : Ref sig .tc := ⟨.hbm, 137, rfl⟩
abbrev main_call6_v13 : Ref sig .tc := ⟨.hbm, 138, rfl⟩
abbrev main_call6_cst : Ref sig .tc := ⟨.hbm, 139, rfl⟩
abbrev main_call6_v14 : Ref sig .tc := ⟨.hbm, 140, rfl⟩
abbrev main_v34 : Ref sig .tc := ⟨.hbm, 141, rfl⟩
abbrev main_v35 : Ref sig .tc := ⟨.hbm, 142, rfl⟩
abbrev main_cst_7 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_call7_c : Ref sig .tc := ⟨.hbm, 150, rfl⟩
abbrev main_call7_v0 : Ref sig .tc := ⟨.hbm, 151, rfl⟩
abbrev main_call7_v1 : Ref sig .tc := ⟨.hbm, 152, rfl⟩
abbrev main_call7_c_0 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_call7_v5 : Ref sig .tc := ⟨.hbm, 157, rfl⟩
abbrev main_call7_c_1 : Ref sig .tc := ⟨.hbm, 158, rfl⟩
abbrev main_call7_c_2 : Ref sig .tc := ⟨.hbm, 159, rfl⟩
abbrev main_call7_v6 : Ref sig .tc := ⟨.hbm, 160, rfl⟩
abbrev main_call7_v7 : Ref sig .tc := ⟨.hbm, 161, rfl⟩
abbrev main_call7_v8 : Ref sig .tc := ⟨.hbm, 162, rfl⟩
abbrev main_call7_v9 : Ref sig .tc := ⟨.hbm, 163, rfl⟩
abbrev main_call7_v10 : Ref sig .tc := ⟨.hbm, 164, rfl⟩
abbrev main_call7_v11 : Ref sig .tc := ⟨.hbm, 165, rfl⟩
abbrev main_call7_c_3 : Ref sig .tc := ⟨.hbm, 166, rfl⟩
abbrev main_call7_v12 : Ref sig .tc := ⟨.hbm, 167, rfl⟩
abbrev main_call7_v13 : Ref sig .tc := ⟨.hbm, 168, rfl⟩
abbrev main_call7_c_4 : Ref sig .tc := ⟨.hbm, 169, rfl⟩
abbrev main_call7_v14 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_cst_8 : Ref sig .tc := ⟨.hbm, 185, rfl⟩
abbrev main_v56 : Ref sig .tc := ⟨.hbm, 186, rfl⟩
abbrev main_v57 : Ref sig .tc := ⟨.hbm, 187, rfl⟩
abbrev main_cst_9 : Ref sig .tc := ⟨.hbm, 188, rfl⟩
abbrev main_call8_v0 : Ref sig .tc := ⟨.hbm, 189, rfl⟩
abbrev main_call8_v1 : Ref sig .tc := ⟨.hbm, 190, rfl⟩
abbrev main_v58 : Ref sig .tc := ⟨.hbm, 191, rfl⟩
abbrev main_c_10 : Ref sig .tc := ⟨.hbm, 192, rfl⟩
abbrev main_call9_v0 : Ref sig .tc := ⟨.hbm, 193, rfl⟩
abbrev main_call9_v1 : Ref sig .tc := ⟨.hbm, 194, rfl⟩
abbrev main_v59 : Ref sig .tc := ⟨.hbm, 195, rfl⟩
abbrev main_cst_11 : Ref sig .tc := ⟨.hbm, 196, rfl⟩
abbrev main_call10_v0 : Ref sig .tc := ⟨.hbm, 197, rfl⟩
abbrev main_call10_v1 : Ref sig .tc := ⟨.hbm, 198, rfl⟩
abbrev main_v60 : Ref sig .tc := ⟨.hbm, 199, rfl⟩
abbrev main_cst_12 : Ref sig .tc := ⟨.hbm, 200, rfl⟩
abbrev main_call11_v0 : Ref sig .tc := ⟨.hbm, 201, rfl⟩
abbrev main_call11_v1 : Ref sig .tc := ⟨.hbm, 202, rfl⟩
abbrev main_v61 : Ref sig .tc := ⟨.hbm, 203, rfl⟩
abbrev main_v62 : Ref sig .tc := ⟨.hbm, 204, rfl⟩
abbrev main_v63 : Ref sig .tc := ⟨.hbm, 205, rfl⟩
abbrev main_v64 : Ref sig .tc := ⟨.hbm, 206, rfl⟩
abbrev main_v65 : Ref sig .tc := ⟨.hbm, 207, rfl⟩
abbrev main_v66 : Ref sig .tc := ⟨.hbm, 208, rfl⟩
abbrev main_v67 : Ref sig .tc := ⟨.hbm, 209, rfl⟩
abbrev main_v68 : Ref sig .tc := ⟨.hbm, 210, rfl⟩
abbrev main_v69 : Ref sig .tc := ⟨.hbm, 211, rfl⟩

abbrev nD : Nat := 1
abbrev τ : Topo := Topo.v7x

variable {F : FTy → Type} [FloatOps F]
-- ==== Proof.Ray.lean ====
/- One ray: the sampling of a piecewise constant density by its cumulative sums, over the extended reals. -/
module

public import Idealize.ShloMosaic.PureOps.Ideal
public import Idealize.ShloMosaic.PureOps.Ideal.Laws

@[expose] public section

noncomputable section

namespace Cert.Ray

open Idealize.ShloMosaic
open scoped BigOperators

/-- The least probability a quotient divides by: the value of the float nearest to `1e-12`. -/
def eps : EReal := Ideal.ofBits .f32 0x2B8CBCCC#32

/-- `eps` is a positive real number. -/
theorem eps_real : ∃ e : ℝ, 0 < e ∧ eps = (e : EReal) := by
  refine ⟨(2 ^ 23 + 834764 : ℝ) * 2 ^ (-63 : ℤ), by positivity, ?_⟩
  simp [eps, Ideal.ofBits, Ideal.ieee, -EReal.coe_mul]
  norm_num

/-- The depth at which sample `j` is taken, as a share of the whole: `(j + 1/2) / 128`. -/
def step (j : ℕ) : EReal := ((((j : ℝ) + 1 / 2) / 128 : ℝ) : EReal)

variable (vi : Fin 32 → BitVec 32) (tn tf : Fin 32 → EReal)

/-- The length of slot `i`: `0` where the slot is no hit. -/
def rng (i : Fin 32) : EReal := if vi i = 4294967295#32 then 0 else tf i - tn i

/-- The length of all slots together. -/
def total : EReal := ∑ i, rng vi tn tf i

/-- The share of slot `i` in the whole length. -/
def prob (i : Fin 32) : EReal := Ideal.div (rng vi tn tf i) (total vi tn tf)

/-- The share of the slots up to and including slot `i`. -/
def cdf (i : Fin 32) : EReal := ∑ k : Fin 32, if k ≤ i then prob vi tn tf k else 0

/-- The share of the slots before slot `i`. -/
def prev (i : Fin 32) : EReal :=
  if h : i.val = 0 then 0 else cdf vi tn tf ⟨i.val - 1, by omega⟩

/-- The change of depth along slot `i` per unit of share. -/
def slope (i : Fin 32) : EReal := Ideal.div (tf i - tn i) (max (prob vi tn tf i) eps)

/-- The depth the line through slot `i` has at share `0`. -/
def off (i : Fin 32) : EReal := tn i - prev vi tn tf i * slope vi tn tf i

/-- How many of the cumulative shares are at most `U`, at most 31: the slot that share `U` falls in. -/
def bin (U : EReal) : Fin 32 :=
  ⟨min (Finset.univ.filter fun i : Fin 32 => cdf vi tn tf i ≤ U).card 31, by omega⟩

/-- The depth at share `U`, as the problem states it. -/
def raw (U : EReal) : EReal :=
  tn (bin vi tn tf U) + Ideal.div (U - prev vi tn tf (bin vi tn tf U)) (max (prob vi tn tf (bin vi tn tf U)) eps)
    * (tf (bin vi tn tf U) - tn (bin vi tn tf U))

/-- The last of `f 0, …, f n` whose preceding cumulative share `C` is at most `U`. -/
def pick {α : Type} (C : Fin 32 → EReal) (U : EReal) (f : Fin 32 → α) : (n : ℕ) → n < 32 → α
  | 0, h => f ⟨0, h⟩
  | n + 1, h => if C ⟨n, by omega⟩ ≤ U then f ⟨n + 1, h⟩ else pick C U f n (by omega)

/-- For cumulative shares that do not decrease, `pick` takes the slot numbered by the count of those at most `U`. -/
theorem pick_eq {α : Type} (C : Fin 32 → EReal) (hC : Monotone C) (U : EReal) (f : Fin 32 → α) (n : ℕ) (h : n < 32) :
    pick C U f n h = f ⟨min (Finset.univ.filter fun i : Fin 32 => C i ≤ U).card n, by omega⟩ := by
  induction n with
  | zero => simp [pick]
  | succ n ih =>
    unfold pick
    split_ifs with hc
    · congr 1
      apply Fin.ext
      have : (Finset.univ.filter fun i : Fin 32 => i ≤ ⟨n, by omega⟩).card
          ≤ (Finset.univ.filter fun i : Fin 32 => C i ≤ U).card := by
        apply Finset.card_le_card
        intro i hi
        simp only [Finset.mem_filter, Finset.mem_univ, true_and] at hi ⊢
        exact (hC hi).trans hc
      have h2 : (Finset.univ.filter fun i : Fin 32 => i ≤ ⟨n, by omega⟩).card = n + 1 := by
        have : (Finset.univ.filter fun i : Fin 32 => i ≤ ⟨n, by omega⟩) = Finset.Iic ⟨n, by omega⟩ := by
          ext i; simp
        rw [this, Fin.card_Iic]
      show n + 1 = min _ (n + 1)
      omega
    · rw [ih]
      congr 1
      apply Fin.ext
      have : (Finset.univ.filter fun i : Fin 32 => C i ≤ U).card
          ≤ (Finset.univ.filter fun i : Fin 32 => i < ⟨n, by omega⟩).card := by
        apply Finset.card_le_card
        intro i hi
        simp only [Finset.mem_filter, Finset.mem_univ, true_and] at hi ⊢
        by_contra hn
        exact hc ((hC (not_lt.mp hn)).trans hi)
      have h2 : (Finset.univ.filter fun i : Fin 32 => i < ⟨n, by omega⟩).card = n := by
        have : (Finset.univ.filter fun i : Fin 32 => i < ⟨n, by omega⟩) = Finset.Iio ⟨n, by omega⟩ := by
          ext i; simp
        rw [this, Fin.card_Iio]
      show min _ n = min _ (n + 1)
      omega

/-- Every entry and exit depth is a real number, and a hit is left no earlier than it is entered. -/
def Ordered : Prop :=
  (∀ i, ∃ a : ℝ, tn i = a) ∧ (∀ i, ∃ b : ℝ, tf i = b) ∧ ∀ i, vi i ≠ 4294967295#32 → tn i ≤ tf i

/-- The shares of an ordered ray are real, not negative and of sum `1`; or the whole length is `0` and every share
    is the quotient of `0` by `0`. -/
theorem prob_cases (h : Ordered vi tn tf) :
    (∃ P : Fin 32 → ℝ, (∀ i, 0 ≤ P i) ∧ ∑ i, P i = 1 ∧ ∀ i, prob vi tn tf i = (P i : EReal))
      ∨ ∀ i, prob vi tn tf i = ⊥ := by
  obtain ⟨ha, hb, hle⟩ := h
  choose a ha using ha
  choose b hb using hb
  let R : Fin 32 → ℝ := fun i => if vi i = 4294967295#32 then 0 else b i - a i
  have hR0 : ∀ i, 0 ≤ R i := fun i => by
    by_cases hv : vi i = 4294967295#32
    · simp [R, hv]
    · have := hle i hv
      rw [ha, hb, EReal.coe_le_coe_iff] at this
      simp [R, hv, this]
  have hR : ∀ i, rng vi tn tf i = (R i : EReal) := fun i => by
    unfold rng
    by_cases hv : vi i = 4294967295#32
    · simp [R, hv]
    · simp [R, hv, ha, hb]
  have hT : total vi tn tf = ((∑ i, R i : ℝ) : EReal) := by
    unfold total
    simp only [hR]
    exact (map_sum (⟨⟨fun x : ℝ => (x : EReal), EReal.coe_zero⟩, EReal.coe_add⟩ : ℝ →+ EReal) R Finset.univ).symm
  by_cases h0 : ∑ i, R i = 0
  · right
    intro i
    have hi : R i = 0 := (Finset.sum_eq_zero_iff_of_nonneg fun i _ => hR0 i).mp h0 i (Finset.mem_univ i)
    simp [prob, hT, h0, hR, hi, Ideal.div]
  · left
    refine ⟨fun i => R i / ∑ i, R i, fun i => div_nonneg (hR0 i) (Finset.sum_nonneg fun i _ => hR0 i), ?_, fun i => ?_⟩
    · rw [← Finset.sum_div, div_self h0]
    · show _ = ((R i / ∑ i, R i : ℝ) : EReal)
      rw [prob, hT, hR, Ideal.div, if_neg (by exact_mod_cast h0), div_eq_mul_inv, EReal.coe_mul, EReal.coe_inv]

/-- A finite sum of real numbers, read as an extended real. -/
theorem coe_sum (P : Fin 32 → ℝ) : (((∑ i, P i : ℝ)) : EReal) = ∑ i, (P i : EReal) :=
  map_sum (⟨⟨fun x : ℝ => (x : EReal), EReal.coe_zero⟩, EReal.coe_add⟩ : ℝ →+ EReal) P Finset.univ

/-- With real shares the cumulative share is the real sum. -/
theorem cdf_real {P : Fin 32 → ℝ} (hP : ∀ i, prob vi tn tf i = (P i : EReal)) (i : Fin 32) :
    cdf vi tn tf i = ((∑ k : Fin 32, if k ≤ i then P k else 0 : ℝ) : EReal) := by
  rw [coe_sum]
  unfold cdf
  refine Finset.sum_congr rfl fun k _ => ?_
  split_ifs
  · exact hP k
  · rfl

/-- Where every share is the quotient of `0` by `0`, so is every cumulative share. -/
theorem cdf_bot (hP : ∀ i, prob vi tn tf i = ⊥) (i : Fin 32) : cdf vi tn tf i = ⊥ := by
  unfold cdf
  rw [← Finset.add_sum_erase _ _ (Finset.mem_univ i), if_pos le_rfl, hP, EReal.bot_add]

/-- The cumulative shares of an ordered ray do not decrease. -/
theorem cdf_mono (h : Ordered vi tn tf) : Monotone (cdf vi tn tf) := by
  intro i j hij
  rcases prob_cases vi tn tf h with ⟨P, hP0, -, hP⟩ | hP
  · rw [cdf_real vi tn tf hP, cdf_real vi tn tf hP, EReal.coe_le_coe_iff]
    refine Finset.sum_le_sum fun k _ => ?_
    by_cases hk : k ≤ i
    · simp [hk, hk.trans hij]
    · simp only [hk, if_false]
      split_ifs
      · exact hP0 k
      · exact le_rfl
  · rw [cdf_bot vi tn tf hP, cdf_bot vi tn tf hP]

/-- On an ordered ray the chain of choices takes the slot that share `U` falls in. -/
theorem pick_bin {α : Type} (h : Ordered vi tn tf) (U : EReal) (f : Fin 32 → α) :
    pick (cdf vi tn tf) U f 31 (by omega) = f (bin vi tn tf U) :=
  pick_eq _ (cdf_mono vi tn tf h) U f 31 _

/-- A share of at least `1` falls in the last slot. -/
theorem bin_last (h : Ordered vi tn tf) (U : EReal) (hU : 1 ≤ U) : bin vi tn tf U = 31 := by
  have hall : ∀ i, cdf vi tn tf i ≤ U := by
    intro i
    rcases prob_cases vi tn tf h with ⟨P, hP0, hP1, hP⟩ | hP
    · refine le_trans ?_ hU
      rw [cdf_real vi tn tf hP, ← EReal.coe_one, EReal.coe_le_coe_iff, ← hP1]
      refine Finset.sum_le_sum fun k _ => ?_
      split_ifs
      · exact le_rfl
      · exact hP0 k
    · rw [cdf_bot vi tn tf hP]; exact bot_le
  apply Fin.ext
  unfold bin
  simp [hall]

/-- The quotient of reals by a nonzero real. -/
theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

/-- The line through the slot that share `U` falls in, at `U`, is the depth the problem states. -/
theorem line_eq (h : Ordered vi tn tf) (u : ℝ) :
    off vi tn tf (bin vi tn tf u) + slope vi tn tf (bin vi tn tf u) * (u : EReal) = raw vi tn tf u := by
  obtain ⟨e, he, hE⟩ := eps_real
  obtain ⟨a, ha⟩ := h.1 (bin vi tn tf u)
  obtain ⟨b, hb⟩ := h.2.1 (bin vi tn tf u)
  rcases prob_cases vi tn tf h with ⟨P, hP0, hP1, hP⟩ | hP
  · obtain ⟨q, hq⟩ : ∃ q : ℝ, prev vi tn tf (bin vi tn tf u) = q := by
      unfold prev
      split_ifs
      · exact ⟨0, rfl⟩
      · exact ⟨_, cdf_real vi tn tf hP _⟩
    have hw : 0 < max (P (bin vi tn tf u)) e := lt_max_of_lt_right he
    have hm : max (prob vi tn tf (bin vi tn tf u)) eps = ((max (P (bin vi tn tf u)) e : ℝ) : EReal) := by
      rw [hP, hE]; exact (EReal.coe_strictMono.monotone.map_max).symm
    unfold off slope raw
    rw [hm, ha, hb, hq]
    generalize max (P (bin vi tn tf u)) e = w at hw
    rw [← EReal.coe_sub, ← EReal.coe_sub, div_coe _ _ hw.ne', div_coe _ _ hw.ne', ← EReal.coe_mul, ← EReal.coe_mul,
      ← EReal.coe_mul, ← EReal.coe_sub, ← EReal.coe_add, ← EReal.coe_add, EReal.coe_eq_coe_iff]
    field_simp
    ring
  · have hb31 : bin vi tn tf u = 31 := by
      apply Fin.ext
      unfold bin
      simp [cdf_bot vi tn tf hP]
    have hq : prev vi tn tf (bin vi tn tf u) = ⊥ := by
      rw [hb31]; unfold prev
      rw [dif_neg (by decide)]
      exact cdf_bot vi tn tf hP _
    have hm : max (prob vi tn tf (bin vi tn tf u)) eps = (e : EReal) := by
      rw [hP, hE]; exact max_eq_right bot_le
    unfold off slope raw
    rw [hm, ha, hb, hq, ← EReal.coe_sub, div_coe _ _ he.ne', ← EReal.coe_mul, EReal.coe_sub_bot, Ideal.div,
      if_neg (by exact_mod_cast he.ne'), ← EReal.coe_inv, EReal.top_mul_coe_of_pos (inv_pos.mpr he)]
    rcases lt_trichotomy (b - a) 0 with hd | hd | hd
    · rw [EReal.bot_mul_coe_of_neg (div_neg_of_neg_of_pos hd he), EReal.top_mul_coe_of_neg hd, sub_eq_add_neg,
        EReal.neg_top, EReal.add_bot, EReal.bot_add]
    · simp [hd]
    · rw [EReal.bot_mul_coe_of_pos (div_pos hd he), EReal.top_mul_coe_of_pos hd, EReal.coe_sub_bot,
        EReal.coe_add_top, EReal.top_add_coe]

/-! ## What the problem asks for -/

/-- The depth of the samples that are none: the float `1e4`. -/
def far : EReal := Ideal.ofBits .f32 0x461C4000#32

/-- The depth of sample `j`; of the 160 samples the first 128 are taken. -/
def depth (j : ℕ) : EReal := if j < 128 then raw vi tn tf (step j) else far

/-- The voxel of sample `j`. -/
def vox (j : ℕ) : BitVec 32 := if j < 128 then vi (bin vi tn tf (step j)) else 4294967295#32

/-- The length of sample `j`: half the way from the sample before to the sample after. -/
def dist (j : ℕ) : EReal :=
  if j < 128 then max ((raw vi tn tf (step (j + 1)) - raw vi tn tf (step (j - 1))) * Ideal.ofBits .f32 0x3F000000#32) 0 else 0

/-- One coordinate of the point of sample `j` on the ray from `o` along `d`. -/
def point (o d : EReal) (j : ℕ) : EReal := o + depth vi tn tf j * d

/-- `off` and `slope` give the sample's depth. -/
theorem line_step (h : Ordered vi tn tf) (j : ℕ) :
    off vi tn tf (bin vi tn tf (step j)) + slope vi tn tf (bin vi tn tf (step j)) * step j = raw vi tn tf (step j) :=
  line_eq vi tn tf h _

/-- One step past the last sample lies on the line through the last slot. -/
theorem bin_past (h : Ordered vi tn tf) : bin vi tn tf (step 128) = 31 := by
  refine bin_last vi tn tf h _ ?_
  unfold step
  rw [← EReal.coe_one, EReal.coe_le_coe_iff]
  norm_num

end Cert.Ray

end
-- ==== Proof.Rows.lean ====
/- The four results as functions of the arguments, ray by ray. -/
module

public import proofs.«01_k».proof.Proof.Ray
public import Idealize.ShloMosaic.Lib.ValueIdxCore

@[expose] public section

noncomputable section

namespace Cert.Rows

open Idealize.ShloMosaic Idealize.ShloMosaic.ValueIdx

/-- Row `r` of a rank-two array. -/
def row {α : Type} {n k : ℕ} (x : (⟨2, ![n, k]⟩ : Shape).Idx → α) (r : Fin n) : Fin k → α := fun i => x (ix2 r i)

variable {n : ℕ} (ro rd : (⟨2, ![n, 3]⟩ : Shape).Idx → EReal) (vi : (⟨2, ![n, 32]⟩ : Shape).Idx → BitVec 32)
  (tn tf : (⟨2, ![n, 32]⟩ : Shape).Idx → EReal)

/-- The depths: element `(r, j)` is the depth of sample `j` of ray `r`. -/
def depths : (⟨2, ![n, 160]⟩ : Shape).Idx → EReal := fun y => Ray.depth (row vi (y 0)) (row tn (y 0)) (row tf (y 0)) (y 1).val

/-- The voxels: element `(r, j)` is the voxel of sample `j` of ray `r`. -/
def voxels : (⟨2, ![n, 160]⟩ : Shape).Idx → BitVec 32 := fun y => Ray.vox (row vi (y 0)) (row tn (y 0)) (row tf (y 0)) (y 1).val

/-- The lengths: element `(r, j)` is the length of sample `j` of ray `r`. -/
def lengths : (⟨2, ![n, 160]⟩ : Shape).Idx → EReal := fun y => Ray.dist (row vi (y 0)) (row tn (y 0)) (row tf (y 0)) (y 1).val

/-- The points: element `(r, j, a)` is coordinate `a` of the point of sample `j` on ray `r`. -/
def points : (⟨3, ![n, 160, 3]⟩ : Shape).Idx → EReal := fun y =>
  Ray.point (row vi (y 0)) (row tn (y 0)) (row tf (y 0)) (ro (ix2 (y 0) (y 2))) (rd (ix2 (y 0) (y 2))) (y 1).val

end Cert.Rows

end
-- ==== Proof.Chunk.lean ====
/- One chunk of 128 rays: the vectors the kernel forms from one chunk of its blocks, read at one index. -/
module

public import proofs.«01_k».proof.Proof.Gen.KernelIdeal
public import proofs.«01_k».proof.Proof.Ray
public import Idealize.ShloMosaic.Lib.ValueIdx
public import Idealize.ShloMosaic.Lib.ValueIdxCoords
public import Idealize.ShloMosaic.Lib.Pipeline.Value

@[expose] public section

noncomputable section

namespace Cert.Chunk

open Idealize.ShloMosaic Idealize.ShloMosaic.ValueIdx
open Cert.KernelIdeal Cert.KernelIdeal.Gen
open scoped BigOperators

/-! ## The vectors -/

/-- One row of a block of 32 rows may be cut out. -/
theorem slices_row {n : ℕ} (h : n < 32) : S32x128.Slices ![n, 0] S1x128 :=
  ⟨rfl, fun a => by match a with | ⟨0, _⟩ => exact h | ⟨1, _⟩ => exact le_refl 128⟩

/-- One row of a block of 3 rows may be cut out. -/
theorem slices_axis {n : ℕ} (h : n < 3) : S3x128.Slices ![n, 0] S1x128 :=
  ⟨rfl, fun a => by match a with | ⟨0, _⟩ => exact h | ⟨1, _⟩ => exact le_refl 128⟩

/-- Row `n` of `x`, on all of 128 rows. -/
def spread {α : Type} (x : S32x128.Idx → α) (n : ℕ) (h : n < 32) : S128x128.Idx → α :=
  broadcastTo S128x128 (shapeCast S1x128 (extractStridedSlice S1x128 ![n, 0] x (slices_row h)) shapeCasts_S1x128_S1x128)
    broadcasts_S1x128_S128x128

section Vectors

variable (vi : IVec S32x128 32) (tn tf : FVec Ideal S32x128 .f32) (ro rd : FVec Ideal S3x128 .f32)

/-- The lengths of the slots. -/
def rngV : FVec Ideal S32x128 .f32 :=
  select (cmpi .eq (shapeCast S32x128 vi shapeCasts_S32x128_S32x128) (broadcast S32x128 4294967295#32))
    (broadcast S32x128 (Scalar.ofBits .f32 0x00000000#32))
    (subf (shapeCast S32x128 tf shapeCasts_S32x128_S32x128) (shapeCast S32x128 tn shapeCasts_S32x128_S32x128))

/-- The shares of the slots. -/
def probV : FVec Ideal S32x128 .f32 :=
  divf (rngV vi tn tf) (broadcastTo S32x128 (shapeCast S1x128
    (multiReduction .add [0] S128 (rngV vi tn tf) 0x00000000#32 reduces_S32x128_S128 (.inl rfl) rfl) shapeCasts_S128_S1x128)
    broadcasts_S1x128_S32x128)

/-- A block plus itself moved down by 1 row. -/
def add1 (x : FVec Ideal S32x128 .f32) : FVec Ideal S32x128 .f32 :=
  addf x (concatenate S32x128 0 [⟨S1x128, broadcast S1x128 (Scalar.ofBits .f32 0x00000000#32)⟩,
    ⟨S31x128, extractStridedSlice S31x128 ![0, 0] x slices_S32x128_o0_0_S31x128⟩] concatenates_S1x128_S31x128_S32x128_d0)

/-- A block plus itself moved down by 2 rows. -/
def add2 (x : FVec Ideal S32x128 .f32) : FVec Ideal S32x128 .f32 :=
  addf x (concatenate S32x128 0 [⟨S2x128, broadcast S2x128 (Scalar.ofBits .f32 0x00000000#32)⟩,
    ⟨S30x128, extractStridedSlice S30x128 ![0, 0] x slices_S32x128_o0_0_S30x128⟩] concatenates_S2x128_S30x128_S32x128_d0)

/-- A block plus itself moved down by 4 rows. -/
def add4 (x : FVec Ideal S32x128 .f32) : FVec Ideal S32x128 .f32 :=
  addf x (concatenate S32x128 0 [⟨S4x128, broadcast S4x128 (Scalar.ofBits .f32 0x00000000#32)⟩,
    ⟨S28x128, extractStridedSlice S28x128 ![0, 0] x slices_S32x128_o0_0_S28x128⟩] concatenates_S4x128_S28x128_S32x128_d0)

/-- A block plus itself moved down by 8 rows. -/
def add8 (x : FVec Ideal S32x128 .f32) : FVec Ideal S32x128 .f32 :=
  addf x (concatenate S32x128 0 [⟨S8x128, broadcast S8x128 (Scalar.ofBits .f32 0x00000000#32)⟩,
    ⟨S24x128, extractStridedSlice S24x128 ![0, 0] x slices_S32x128_o0_0_S24x128⟩] concatenates_S8x128_S24x128_S32x128_d0)

/-- A block plus itself moved down by 16 rows. -/
def add16 (x : FVec Ideal S32x128 .f32) : FVec Ideal S32x128 .f32 :=
  addf x (concatenate S32x128 0 [⟨S16x128, broadcast S16x128 (Scalar.ofBits .f32 0x00000000#32)⟩,
    ⟨S16x128, extractStridedSlice S16x128 ![0, 0] x slices_S32x128_o0_0_S16x128⟩] concatenates_S16x128_S16x128_S32x128_d0)

/-- The cumulative shares of the slots. -/
def cdfV : FVec Ideal S32x128 .f32 := add16 (add8 (add4 (add2 (add1 (probV vi tn tf)))))

/-- The cumulative shares before the slots. -/
def prevV : FVec Ideal S32x128 .f32 :=
  concatenate S32x128 0 [⟨S1x128, broadcast S1x128 (Scalar.ofBits .f32 0x00000000#32)⟩,
    ⟨S31x128, extractStridedSlice S31x128 ![0, 0] (cdfV vi tn tf) slices_S32x128_o0_0_S31x128⟩]
    concatenates_S1x128_S31x128_S32x128_d0

/-- The slopes of the slots' lines. -/
def slopeV : FVec Ideal S32x128 .f32 :=
  divf (subf (shapeCast S32x128 tf shapeCasts_S32x128_S32x128) (shapeCast S32x128 tn shapeCasts_S32x128_S32x128))
    (maximumf (probV vi tn tf) (broadcast S32x128 (Scalar.ofBits .f32 0x2B8CBCCC#32)))

/-- The slots' lines at share `0`. -/
def offV : FVec Ideal S32x128 .f32 :=
  subf (shapeCast S32x128 tn shapeCasts_S32x128_S32x128) (mulf (prevV vi tn tf) (slopeV vi tn tf))

/-- The share every sample is taken at. -/
def stepV : FVec Ideal S128x128 .f32 :=
  mulf (addf (sitofp .f32 (iota .tc S128x128 32 [0] iota_S128x128_d0_w32)) (broadcast S128x128 (Scalar.ofBits .f32 0x3F000000#32)))
    (broadcast S128x128 (Scalar.ofBits .f32 0x3C000000#32))

/-- Of the rows `0, …, n` of `x`, for every sample the last one whose preceding cumulative share the sample has reached. -/
def pickV (x : FVec Ideal S32x128 .f32) : (n : ℕ) → n < 32 → FVec Ideal S128x128 .f32
  | 0, h => spread x 0 h
  | n + 1, h => select (cmpf .oge stepV (broadcastTo S128x128
      (extractStridedSlice S1x128 ![n, 0] (cdfV vi tn tf) (slices_row (Nat.lt_of_succ_lt h))) broadcasts_S1x128_S128x128))
      (spread x (n + 1) h) (pickV x n (Nat.lt_of_succ_lt h))

/-- The samples' depths. -/
def rawV : FVec Ideal S128x128 .f32 :=
  addf (pickV vi tn tf (offV vi tn tf) 31 (by decide)) (mulf (pickV vi tn tf (slopeV vi tn tf) 31 (by decide)) stepV)

/-- The samples' voxels. -/
def voxV : IVec S128x128 32 :=
  fptosi 32 (pickV vi tn tf (sitofp .f32 (shapeCast S32x128 vi shapeCasts_S32x128_S32x128)) 31 (by decide))

/-- The depth one step past the last sample. -/
def lastV : FVec Ideal S1x128 .f32 :=
  addf (extractStridedSlice S1x128 ![31, 0] (offV vi tn tf) slices_S32x128_o31_0_S1x128)
    (mulf (extractStridedSlice S1x128 ![31, 0] (slopeV vi tn tf) slices_S32x128_o31_0_S1x128)
      (broadcast S1x128 (Scalar.ofBits .f32 0x3F808000#32)))

/-- The samples' lengths. -/
def distV : FVec Ideal S128x128 .f32 :=
  maximumf (mulf (subf
    (concatenate S128x128 0 [⟨S127x128, extractStridedSlice S127x128 ![1, 0] (rawV vi tn tf) slices_S128x128_o1_0_S127x128⟩,
      ⟨S1x128, lastV vi tn tf⟩] concatenates_S127x128_S1x128_S128x128_d0)
    (concatenate S128x128 0 [⟨S1x128, extractStridedSlice S1x128 ![0, 0] (rawV vi tn tf) slices_S128x128_o0_0_S1x128⟩,
      ⟨S127x128, extractStridedSlice S127x128 ![0, 0] (rawV vi tn tf) slices_S128x128_o0_0_S127x128⟩]
      concatenates_S1x128_S127x128_S128x128_d0))
    (broadcast S128x128 (Scalar.ofBits .f32 0x3F000000#32))) (broadcast S128x128 (Scalar.ofBits .f32 0x00000000#32))

/-- Coordinate `n` of the samples' points. -/
def pointV (n : ℕ) (h : n < 3) : FVec Ideal S128x128 .f32 :=
  addf (broadcastTo S128x128 (extractStridedSlice S1x128 ![n, 0] (shapeCast S3x128 ro shapeCasts_S3x128_S3x128) (slices_axis h))
      broadcasts_S1x128_S128x128)
    (mulf (rawV vi tn tf) (broadcastTo S128x128
      (extractStridedSlice S1x128 ![n, 0] (shapeCast S3x128 rd shapeCasts_S3x128_S3x128) (slices_axis h)) broadcasts_S1x128_S128x128))

/-- Coordinate `n` of the points of the samples that are none. -/
def farV (n : ℕ) (h : n < 3) : FVec Ideal S32x128 .f32 :=
  broadcastTo S32x128 (shapeCast S1x128
    (addf (extractStridedSlice S1x128 ![n, 0] (shapeCast S3x128 ro shapeCasts_S3x128_S3x128) (slices_axis h))
      (mulf (broadcast S1x128 (Scalar.ofBits .f32 0x461C4000#32))
        (extractStridedSlice S1x128 ![n, 0] (shapeCast S3x128 rd shapeCasts_S3x128_S3x128) (slices_axis h))))
    shapeCasts_S1x128_S1x128) broadcasts_S1x128_S32x128

end Vectors

/-! ## The vectors read at an index -/

/-- A row spread over 128 rows reads that row. -/
theorem spread_apply {α : Type} (x : S32x128.Idx → α) (n : ℕ) (h : n < 32) (j l : Fin 128) :
    spread x n h (ix2 j l) = x (ix2 ⟨n, h⟩ l) := by
  unfold spread
  rw [shapeCast_self, broadcastTo_apply _ _ _ (ix2 (0 : Fin 1) l), extractStridedSlice_apply _ _ _ _ (ix2 (⟨n, h⟩ : Fin 32) l)]
  · intro a; match a with | ⟨0, _⟩ => rfl | ⟨1, _⟩ => exact (Nat.zero_add _).symm
  · intro a; match a with | ⟨0, _⟩ => rfl | ⟨1, _⟩ => rfl

/-- A row of a block of any height, spread over any number of rows, reads that row. -/
theorem wide_apply {α : Type} {N M : ℕ} (x : (⟨2, ![N, 128]⟩ : Shape).Idx → α) (n : ℕ) (hn : n < N)
    (hs : (⟨2, ![N, 128]⟩ : Shape).Slices ![n, 0] S1x128) (hb : S1x128.Broadcasts ⟨2, ![M, 128]⟩) (j : Fin M) (l : Fin 128) :
    broadcastTo ⟨2, ![M, 128]⟩ (extractStridedSlice S1x128 ![n, 0] x hs) hb (ix2 j l) = x (ix2 ⟨n, hn⟩ l) := by
  rw [broadcastTo_apply _ _ _ (ix2 (0 : Fin 1) l), extractStridedSlice_apply _ _ _ _ (ix2 (⟨n, hn⟩ : Fin N) l)]
  · intro a; match a with | ⟨0, _⟩ => rfl | ⟨1, _⟩ => exact (Nat.zero_add _).symm
  · intro a; match a with | ⟨0, _⟩ => rfl | ⟨1, _⟩ => rfl

/-- A block moved down by `s` rows, the rows above filled with `z`, read at an index. -/
theorem down_apply {α : Type} {s r : ℕ} (x : S32x128.Idx → α) (z : α)
    (hs : S32x128.Slices ![0, 0] ⟨2, ![r, 128]⟩) (hc : Shape.Concatenates [⟨2, ![s, 128]⟩, ⟨2, ![r, 128]⟩] S32x128 0)
    (hr : s + r = 32) (i : Fin 32) (l : Fin 128) :
    concatenate S32x128 0 [⟨⟨2, ![s, 128]⟩, broadcast ⟨2, ![s, 128]⟩ z⟩,
      ⟨⟨2, ![r, 128]⟩, extractStridedSlice ⟨2, ![r, 128]⟩ ![0, 0] x hs⟩] hc (ix2 i l)
      = if s ≤ i.val then x (ix2 ⟨i.val - s, by omega⟩ l) else z := by
  split_ifs with h
  · rw [concatenate_pair_apply_right 0 _ _ hc (ix2 i l) rfl rfl (ix2 (⟨i.val - s, by omega⟩ : Fin r) l),
      extractStridedSlice_apply _ _ _ _ (ix2 (⟨i.val - s, by omega⟩ : Fin 32) l)]
    · intro a; match a with | ⟨0, _⟩ => exact (Nat.zero_add _).symm | ⟨1, _⟩ => exact (Nat.zero_add _).symm
    · intro b hb; match b with | ⟨0, _⟩ => exact absurd rfl hb | ⟨1, _⟩ => rfl
    · exact Nat.sub_add_cancel h
  · rw [concatenate_pair_apply_left 0 _ _ hc (ix2 i l) rfl (ix2 (⟨i.val, by omega⟩ : Fin s) l)]
    · rfl
    · intro b; match b with | ⟨0, _⟩ => rfl | ⟨1, _⟩ => rfl

/-- The sum of the last `s` rows up to row `i`, of a column `f` of 32 rows. -/
def trail (f : Fin 32 → EReal) (s i : ℕ) : EReal :=
  ∑ t ∈ Finset.range s, if h : t ≤ i ∧ i < 32 then f ⟨i - t, by omega⟩ else 0

/-- The last `2 s` rows up to row `i` are the last `s` up to `i` and the last `s` up to row `i - s`. -/
theorem trail_double (f : Fin 32 → EReal) (s i : ℕ) (hi : i < 32) :
    trail f (s + s) i = trail f s i + if s ≤ i then trail f s (i - s) else 0 := by
  unfold trail
  rw [Finset.sum_range_add]
  congr 1
  split_ifs with h
  · refine Finset.sum_congr rfl fun t _ => ?_
    by_cases ht : s + t ≤ i
    · rw [dif_pos ⟨ht, hi⟩, dif_pos ⟨by omega, by omega⟩]
      congr 1; apply Fin.ext; show i - (s + t) = i - s - t; omega
    · rw [dif_neg (by omega), dif_neg (by omega)]
  · refine Finset.sum_eq_zero fun t _ => ?_
    rw [dif_neg (by omega)]

/-- The last 32 rows up to row `i` are all rows up to `i`. -/
theorem trail_all (f : Fin 32 → EReal) (i : Fin 32) : trail f 32 i.val = ∑ k : Fin 32, if k ≤ i then f k else 0 := by
  unfold trail
  rw [← Finset.sum_filter]
  refine (Finset.sum_subset (s₁ := Finset.range (i.val + 1)) ?_ ?_).symm.trans ?_
  · intro t ht; simp only [Finset.mem_range] at ht ⊢; omega
  · intro t _ ht; simp only [Finset.mem_range] at ht; rw [dif_neg (by omega)]
  · refine Finset.sum_bij' (fun t _ => (⟨i.val - t, by omega⟩ : Fin 32)) (fun k _ => i.val - k.val) ?_ ?_ ?_ ?_ ?_
    · intro t ht; simp only [Finset.mem_filter, Finset.mem_univ, true_and, Fin.le_def]; omega
    · intro k hk; simp only [Finset.mem_range]; omega
    · intro t ht; simp only [Finset.mem_range] at ht; show i.val - (i.val - t) = t; omega
    · intro k hk
      simp only [Finset.mem_filter, Finset.mem_univ, true_and, Fin.le_def] at hk
      apply Fin.ext; show i.val - (i.val - k.val) = k.val; omega
    · intro t ht; simp only [Finset.mem_range] at ht; rw [dif_pos ⟨by omega, i.isLt⟩]

/-- Doubling the number of rows summed: a block that holds the sums of `s` rows, plus itself moved down by `s` rows, holds
    the sums of `2 s` rows. -/
theorem add_apply {s r : ℕ} (f : Fin 32 → EReal) (x : FVec Ideal S32x128 .f32)
    (hs : S32x128.Slices ![0, 0] ⟨2, ![r, 128]⟩) (hc : Shape.Concatenates [⟨2, ![s, 128]⟩, ⟨2, ![r, 128]⟩] S32x128 0)
    (hr : s + r = 32) (l : Fin 128) (hx : ∀ i : Fin 32, x (ix2 i l) = trail f s i.val) (i : Fin 32) :
    addf x (concatenate S32x128 0 [⟨⟨2, ![s, 128]⟩, broadcast ⟨2, ![s, 128]⟩ (Scalar.ofBits (F := Ideal) .f32 0x00000000#32)⟩,
      ⟨⟨2, ![r, 128]⟩, extractStridedSlice ⟨2, ![r, 128]⟩ ![0, 0] x hs⟩] hc) (ix2 i l) = trail f (s + s) i.val := by
  rw [addf_apply, down_apply x _ hs hc hr, trail_double f s i.val i.isLt, hx i]
  congr 1
  split_ifs with h
  · exact hx _
  · exact Ideal.ofBits_zero_f32

section Readings

variable (vi : IVec S32x128 32) (tn tf : FVec Ideal S32x128 .f32) (ro rd : FVec Ideal S3x128 .f32) (l : Fin 128)

/-- Column `l` of a block of 32 rows. -/
abbrev col {α : Type} (x : S32x128.Idx → α) (l : Fin 128) : Fin 32 → α := fun i => x (ix2 i l)

theorem rngV_apply (i : Fin 32) : rngV vi tn tf (ix2 i l) = Ray.rng (col vi l) (col tn l) (col tf l) i := by
  unfold rngV Ray.rng
  rw [shapeCast_self, shapeCast_self, shapeCast_self, select_apply]
  show Scalar.select (IntOp.cmpi .eq (vi (ix2 i l)) 4294967295#32) (Ideal.ofBits .f32 0x00000000#32) (tf (ix2 i l) - tn (ix2 i l)) = _
  split_ifs with h
  · rw [show vi (ix2 i l) = 4294967295#32 from h, show IntOp.cmpi .eq 4294967295#32 4294967295#32 = 1#1 by decide, select_one,
      Ideal.ofBits_zero_f32]
  · rw [show IntOp.cmpi .eq (vi (ix2 i l)) 4294967295#32 = 0#1 by
      simp only [IntOp.cmpi]; rw [show (vi (ix2 i l) == 4294967295#32) = false from beq_eq_false_iff_ne.mpr h]; rfl, select_zero]

theorem probV_apply (i : Fin 32) : probV vi tn tf (ix2 i l) = Ray.prob (col vi l) (col tn l) (col tf l) i := by
  unfold probV Ray.prob Ray.total
  rw [divf_apply, rngV_apply, broadcastTo_apply _ _ _ (ix2 (0 : Fin 1) l), shapeCast_apply _ _ _ (ix1 l)]
  · congr 1
    refine (Ideal.multiReduction_add_single _ _ _ _ _ _).trans (Finset.sum_congr rfl fun k _ => ?_)
    refine Eq.trans (congrArg (rngV vi tn tf) ?_) (rngV_apply vi tn tf l k)
    funext a; match a with | ⟨0, _⟩ => rfl | ⟨1, _⟩ => rfl
  · rw [Shape.rowMajor_val_one, Shape.rowMajor_val_two]
    exact (Nat.zero_add _).symm
  · intro a; match a with | ⟨0, _⟩ => rfl | ⟨1, _⟩ => rfl

theorem cdfV_apply (i : Fin 32) : cdfV vi tn tf (ix2 i l) = Ray.cdf (col vi l) (col tn l) (col tf l) i := by
  unfold cdfV Ray.cdf
  rw [← trail_all]
  refine add_apply (s := 16) (r := 16) _ _ _ _ rfl l (fun i => ?_) i
  refine add_apply (s := 8) (r := 24) _ _ _ _ rfl l (fun i => ?_) i
  refine add_apply (s := 4) (r := 28) _ _ _ _ rfl l (fun i => ?_) i
  refine add_apply (s := 2) (r := 30) _ _ _ _ rfl l (fun i => ?_) i
  refine add_apply (s := 1) (r := 31) _ _ _ _ rfl l (fun i => ?_) i
  rw [probV_apply]
  unfold trail
  rw [Finset.sum_range_one, dif_pos ⟨Nat.zero_le _, i.isLt⟩]
  rfl

theorem prevV_apply (i : Fin 32) : prevV vi tn tf (ix2 i l) = Ray.prev (col vi l) (col tn l) (col tf l) i := by
  unfold prevV Ray.prev
  refine (down_apply (s := 1) (r := 31) _ _ _ _ rfl i l).trans ?_
  by_cases h : i.val = 0
  · rw [dif_pos h, if_neg (by omega)]; exact Ideal.ofBits_zero_f32
  · rw [dif_neg h, if_pos (by omega), cdfV_apply]

theorem slopeV_apply (i : Fin 32) : slopeV vi tn tf (ix2 i l) = Ray.slope (col vi l) (col tn l) (col tf l) i := by
  unfold slopeV Ray.slope
  rw [divf_apply, maximumf_apply, subf_apply, shapeCast_self, shapeCast_self, probV_apply]
  rfl

theorem offV_apply (i : Fin 32) : offV vi tn tf (ix2 i l) = Ray.off (col vi l) (col tn l) (col tf l) i := by
  unfold offV Ray.off
  rw [subf_apply, mulf_apply, shapeCast_self, prevV_apply, slopeV_apply]

/-- The float `1/2`. -/
theorem half : Ideal.ofBits .f32 0x3F000000#32 = ((1 / 2 : ℝ) : EReal) := by
  simp [Ideal.ofBits, Ideal.ieee, -EReal.coe_mul]; norm_num

/-- The float `1/128`. -/
theorem hundredth : Ideal.ofBits .f32 0x3C000000#32 = ((1 / 128 : ℝ) : EReal) := by
  simp [Ideal.ofBits, Ideal.ieee, -EReal.coe_mul]; norm_num

/-- The float `128.5/128` is the share one step past the last sample's. -/
theorem past : Ideal.ofBits .f32 0x3F808000#32 = Ray.step 128 := by
  simp [Ideal.ofBits, Ideal.ieee, Ray.step, -EReal.coe_mul]; norm_num

theorem stepV_apply (j : Fin 128) : stepV (ix2 j l) = Ray.step j.val := by
  unfold stepV Ray.step
  rw [mulf_apply, addf_apply, sitofp_apply, iota_single_apply]
  show (FloatOps.sitofp (F := Ideal) .f32 (BitVec.ofNat 32 j.val) + Ideal.ofBits .f32 0x3F000000#32) * Ideal.ofBits .f32 0x3C000000#32 = _
  rw [half, hundredth]
  have : FloatOps.sitofp (F := Ideal) .f32 (BitVec.ofNat 32 j.val) = ((j.val : ℝ) : EReal) := by
    show (((BitVec.ofNat 32 j.val).toInt : ℝ) : EReal) = _
    rw [show (BitVec.ofNat 32 j.val).toInt = (j.val : ℤ) by
      rw [BitVec.toInt_ofNat']; have := j.isLt; simp [Int.bmod]; omega]
    simp
  rw [this, ← EReal.coe_add, ← EReal.coe_mul]
  congr 1
  ring

theorem pickV_apply (x : FVec Ideal S32x128 .f32) (n : ℕ) (h : n < 32) (j : Fin 128) :
    pickV vi tn tf x n h (ix2 j l)
      = Ray.pick (Ray.cdf (col vi l) (col tn l) (col tf l)) (Ray.step j.val) (col x l) n h := by
  induction n with
  | zero => exact spread_apply x 0 h j l
  | succ n ih =>
    unfold pickV Ray.pick
    rw [select_apply, cmpf_apply, spread_apply, ih, stepV_apply, wide_apply _ n (by omega), cdfV_apply, Ideal.cmpf_def]
    by_cases hc : Ray.cdf (col vi l) (col tn l) (col tf l) ⟨n, by omega⟩ ≤ Ray.step j.val
    · rw [if_pos hc]
      simp only [Ideal.cmp]
      rw [decide_eq_true hc]; rfl
    · rw [if_neg hc]
      simp only [Ideal.cmp]
      rw [decide_eq_false hc]; rfl

end Readings

end Cert.Chunk

end
-- ==== Proof.Pieces.lean ====
/- What the kernel's body stores: the pieces of every result block, chunk by chunk. -/
module

public import proofs.«01_k».proof.Proof.Gen.KernelIdeal.Frame
public import proofs.«01_k».proof.Proof.Chunk

@[expose] public section

set_option maxRecDepth 16384

noncomputable section

namespace Cert.Pieces

open Idealize.ShloMosaic Idealize.ShloMosaic.TcCoe Idealize.ShloMosaic.Tactic
open Cert.KernelIdeal Cert.KernelIdeal.Gen Cert.Chunk

/-- The columns of chunk `k` lie in a block of 32 rows. -/
theorem inb_slot (k : Fin 16) : ∀ a, (![0, 128 * k.val] : Fin 2 → Nat) a + S32x128.size a ≤ S32x2048.size a := fun a => by
  have := k.isLt
  match a with | ⟨0, _⟩ => exact le_refl 32 | ⟨1, _⟩ => show 128 * k.val + 128 ≤ 2048; omega

/-- The columns of chunk `k` lie in a block of 3 rows. -/
theorem inb_axis (k : Fin 16) : ∀ a, (![0, 128 * k.val] : Fin 2 → Nat) a + S3x128.size a ≤ S3x2048.size a := fun a => by
  have := k.isLt
  match a with | ⟨0, _⟩ => exact le_refl 3 | ⟨1, _⟩ => show 128 * k.val + 128 ≤ 2048; omega

/-- The columns of chunk `k`, the samples' rows of part `n`, lie in a block of `N` parts of 160 rows. -/
theorem inb_main {N : ℕ} (n : Fin N) (k : Fin 16) :
    ∀ a, (![160 * n.val, 128 * k.val] : Fin 2 → Nat) a + S128x128.size a ≤ (⟨2, ![160 * N, 2048]⟩ : Shape).size a := fun a => by
  have := k.isLt; have := n.isLt
  match a with
  | ⟨0, _⟩ => show 160 * n.val + 128 ≤ 160 * N; omega
  | ⟨1, _⟩ => show 128 * k.val + 128 ≤ 2048; omega

/-- The columns of chunk `k`, the last 32 rows of part `n`, lie in a block of `N` parts of 160 rows. -/
theorem inb_tail {N : ℕ} (n : Fin N) (k : Fin 16) :
    ∀ a, (![160 * n.val + 128, 128 * k.val] : Fin 2 → Nat) a + S32x128.size a ≤ (⟨2, ![160 * N, 2048]⟩ : Shape).size a := fun a => by
  have := k.isLt; have := n.isLt
  match a with
  | ⟨0, _⟩ => show 160 * n.val + 128 + 32 ≤ 160 * N; omega
  | ⟨1, _⟩ => show 128 * k.val + 128 ≤ 2048; omega

/-- Chunk `k` of a block of 32 rows that a buffer holds. -/
def slot {e : EltTy} (arg : Memref sig .tc .vmem S32x2048 e) (harg : arg.IsWhole) (x : Vec Ideal S32x2048 e) (k : Fin 16) :
    S32x128.Idx → Elt Ideal e :=
  View.readAt (Elt Ideal) arg.view (Rect.unit (s := S32x2048) ![0, 128 * k.val] S32x128.size (inb_slot k)).toLoadRect (harg.unread x)

/-- Chunk `k` of a block of 3 rows that a buffer holds. -/
def axis (arg : Memref sig .tc .vmem S3x2048 .f32) (harg : arg.IsWhole) (x : Vec Ideal S3x2048 .f32) (k : Fin 16) :
    S3x128.Idx → Elt Ideal .f32 :=
  View.readAt (Elt Ideal) arg.view (Rect.unit (s := S3x2048) ![0, 128 * k.val] S3x128.size (inb_axis k)).toLoadRect (harg.unread x)

/-- The two stores of part `n` of chunk `k`: the last 32 rows hold `W`, the samples' rows hold `V`. -/
def two {N : ℕ} {e : EltTy} (V : S128x128.Idx → Elt Ideal e) (W : S32x128.Idx → Elt Ideal e) (n : Fin N) (k : Fin 16) :
    List (View.Piece (Elt Ideal) ⟨2, ![160 * N, 2048]⟩ e) :=
  [⟨Rect.unit (s := ⟨2, ![160 * N, 2048]⟩) ![160 * n.val + 128, 128 * k.val] S32x128.size (inb_tail n k), W⟩,
   ⟨Rect.unit (s := ⟨2, ![160 * N, 2048]⟩) ![160 * n.val, 128 * k.val] S128x128.size (inb_main n k), V⟩]

/-- The chunks, last first. -/
def chunks : List (Fin 16) := [15, 14, 13, 12, 11, 10, 9, 8, 7, 6, 5, 4, 3, 2, 1, 0]

/-- All stores of a block of `N` parts, given by the parts' two vectors at every chunk. -/
def stores {N : ℕ} {e : EltTy} (V : Fin N → Fin 16 → S128x128.Idx → Elt Ideal e) (W : Fin N → Fin 16 → S32x128.Idx → Elt Ideal e) :
    List (View.Piece (Elt Ideal) ⟨2, ![160 * N, 2048]⟩ e) :=
  chunks.flatMap fun k => (List.finRange N).reverse.flatMap fun n => two (V n k) (W n k) n k

variable (c : Dev nD) (i : grid0.Coords) (arg1 : Memref sig .tc .vmem S3x2048 .f32) (harg1 : arg1.IsWhole)
  (arg2 : Memref sig .tc .vmem S3x2048 .f32) (harg2 : arg2.IsWhole) (arg3 : Memref sig .tc .vmem S32x2048 .i32) (harg3 : arg3.IsWhole)
  (arg4 : Memref sig .tc .vmem S32x2048 .f32) (harg4 : arg4.IsWhole) (arg5 : Memref sig .tc .vmem S32x2048 .f32) (harg5 : arg5.IsWhole)
  (arg6 : Memref sig .tc .vmem S480x2048 .f32) (harg6 : arg6.IsWhole) (arg7 : Memref sig .tc .vmem S160x2048 .i32) (harg7 : arg7.IsWhole)
  (arg8 : Memref sig .tc .vmem S160x2048 .f32) (harg8 : arg8.IsWhole) (arg9 : Memref sig .tc .vmem S160x2048 .f32) (harg9 : arg9.IsWhole)
  (x0 : Vec Ideal S3x2048 .f32) (x1 : Vec Ideal S3x2048 .f32) (x2 : Vec Ideal S32x2048 .i32) (x3 : Vec Ideal S32x2048 .f32)
  (x4 : Vec Ideal S32x2048 .f32)

/-- The stores of the depths. -/
theorem stores7 :
    (kernelRun0_A (F := Ideal) c i arg1 harg1 arg2 harg2 arg3 harg3 arg4 harg4 arg5 harg5 arg6 harg6 arg7 harg7 arg8 harg8 arg9 harg9
      x0 x1 x2 x3 x4).2.2.1
    = stores (N := 1) (e := .f32) (fun _ k => rawV (slot arg3 harg3 x2 k) (slot arg4 harg4 x3 k) (slot arg5 harg5 x4 k))
        (fun _ _ => broadcast S32x128 (Scalar.ofBits (F := Ideal) .f32 0x461C4000#32)) := by
  unfold kernelRun0_A; dsimp only; sl_unfold_words
  repeat refine congrArg₂ List.cons rfl ?_
  rfl

/-- The stores of the voxels. -/
theorem stores6 :
    (kernelRun0_A (F := Ideal) c i arg1 harg1 arg2 harg2 arg3 harg3 arg4 harg4 arg5 harg5 arg6 harg6 arg7 harg7 arg8 harg8 arg9 harg9
      x0 x1 x2 x3 x4).2.1
    = stores (N := 1) (e := .i32) (fun _ k => voxV (slot arg3 harg3 x2 k) (slot arg4 harg4 x3 k) (slot arg5 harg5 x4 k))
        (fun _ _ => broadcast S32x128 4294967295#32) := by
  unfold kernelRun0_A; dsimp only; sl_unfold_words
  repeat refine congrArg₂ List.cons rfl ?_
  rfl

/-- The stores of the lengths. -/
theorem stores8 :
    (kernelRun0_A (F := Ideal) c i arg1 harg1 arg2 harg2 arg3 harg3 arg4 harg4 arg5 harg5 arg6 harg6 arg7 harg7 arg8 harg8 arg9 harg9
      x0 x1 x2 x3 x4).2.2.2.1
    = stores (N := 1) (e := .f32) (fun _ k => distV (slot arg3 harg3 x2 k) (slot arg4 harg4 x3 k) (slot arg5 harg5 x4 k))
        (fun _ _ => broadcast S32x128 (Scalar.ofBits (F := Ideal) .f32 0x00000000#32)) := by
  unfold kernelRun0_A; dsimp only; sl_unfold_words
  repeat refine congrArg₂ List.cons rfl ?_
  rfl

/-- The stores of the points: three parts, one per coordinate. -/
theorem stores5 :
    (kernelRun0_A (F := Ideal) c i arg1 harg1 arg2 harg2 arg3 harg3 arg4 harg4 arg5 harg5 arg6 harg6 arg7 harg7 arg8 harg8 arg9 harg9
      x0 x1 x2 x3 x4).1
    = stores (N := 3) (e := .f32)
        (fun n k => pointV (slot arg3 harg3 x2 k) (slot arg4 harg4 x3 k) (slot arg5 harg5 x4 k) (axis arg1 harg1 x0 k) (axis arg2 harg2 x1 k)
          n.val n.isLt)
        (fun n k => farV (axis arg1 harg1 x0 k) (axis arg2 harg2 x1 k) n.val n.isLt) := by
  unfold kernelRun0_A; dsimp only; sl_unfold_words
  repeat refine congrArg₂ List.cons rfl ?_
  rfl

end Cert.Pieces

end
-- ==== Proof.Reads.lean ====
/- The vectors one chunk's stores hold, read at one index: what the problem asks for. -/
module

public import proofs.«01_k».proof.Proof.Chunk

@[expose] public section

noncomputable section

namespace Cert.Chunk

open Idealize.ShloMosaic Idealize.ShloMosaic.ValueIdx
open Cert.KernelIdeal Cert.KernelIdeal.Gen
open scoped BigOperators

variable (vi : IVec S32x128 32) (tn tf : FVec Ideal S32x128 .f32) (ro rd : FVec Ideal S3x128 .f32) (l : Fin 128)

/-- The samples' depths are the problem's. -/
theorem rawV_apply (h : Ray.Ordered (col vi l) (col tn l) (col tf l)) (j : Fin 128) :
    rawV vi tn tf (ix2 j l) = Ray.raw (col vi l) (col tn l) (col tf l) (Ray.step j.val) := by
  unfold rawV
  rw [addf_apply, mulf_apply, pickV_apply, pickV_apply, stepV_apply, Ray.pick_bin _ _ _ h, Ray.pick_bin _ _ _ h]
  show offV vi tn tf (ix2 _ l) + slopeV vi tn tf (ix2 _ l) * _ = _
  rw [offV_apply, slopeV_apply, Ray.line_step _ _ _ h]

/-- A 32-bit word made a number and back is itself. -/
theorem word_back (v : BitVec 32) : Ideal.fptosi 32 (((v.toInt : ℝ)) : EReal) = v := by
  unfold Ideal.fptosi
  have h1 := BitVec.le_toInt v
  have h2 := BitVec.toInt_lt (x := v)
  have h : Ideal.toIntClamped (-(2 ^ (32 - 1) : ℕ)) ((2 ^ (32 - 1) : ℕ) - 1) (((v.toInt : ℝ)) : EReal) = v.toInt := by
    show max _ (min _ (if 0 ≤ (v.toInt : ℝ) then ⌊(v.toInt : ℝ)⌋ else ⌈(v.toInt : ℝ)⌉)) = _
    rw [Int.floor_intCast, Int.ceil_intCast, ite_self]
    norm_num at h1 h2 ⊢
    omega
  rw [h, BitVec.ofInt_toInt]

/-- The samples' voxels are the problem's. -/
theorem voxV_apply (h : Ray.Ordered (col vi l) (col tn l) (col tf l)) (j : Fin 128) :
    voxV vi tn tf (ix2 j l) = vi (ix2 (Ray.bin (col vi l) (col tn l) (col tf l) (Ray.step j.val)) l) := by
  unfold voxV
  show Ideal.fptosi 32 (pickV vi tn tf _ 31 _ (ix2 j l)) = _
  rw [pickV_apply, Ray.pick_bin _ _ _ h, shapeCast_self]
  exact word_back _

/-- The depth one step past the last sample is the problem's. -/
theorem lastV_apply (h : Ray.Ordered (col vi l) (col tn l) (col tf l)) :
    lastV vi tn tf (ix2 (0 : Fin 1) l) = Ray.raw (col vi l) (col tn l) (col tf l) (Ray.step 128) := by
  unfold lastV
  rw [addf_apply, mulf_apply, extractStridedSlice_apply _ _ _ _ (ix2 (31 : Fin 32) l),
    extractStridedSlice_apply _ _ _ _ (ix2 (31 : Fin 32) l), offV_apply, slopeV_apply, ← Ray.line_step _ _ _ h, Ray.bin_past _ _ _ h,
    ← past]
  · rfl
  all_goals intro a; match a with | ⟨0, _⟩ => rfl | ⟨1, _⟩ => exact (Nat.zero_add _).symm

/-- The samples' lengths are the problem's. -/
theorem distV_apply (h : Ray.Ordered (col vi l) (col tn l) (col tf l)) (j : Fin 128) :
    distV vi tn tf (ix2 j l) = Ray.dist (col vi l) (col tn l) (col tf l) j.val := by
  unfold distV Ray.dist
  rw [if_pos j.isLt, maximumf_apply, mulf_apply, subf_apply]
  refine congrArg₂ max (congrArg₂ (· * ·) (congrArg₂ (· - ·) ?_ ?_) rfl) Ideal.ofBits_zero_f32
  · by_cases hj : j.val < 127
    · rw [concatenate_pair_apply_left 0 _ _ concatenates_S127x128_S1x128_S128x128_d0 (ix2 j l) rfl (ix2 (⟨j.val, hj⟩ : Fin 127) l),
        extractStridedSlice_apply _ _ _ _ (ix2 (⟨j.val + 1, by omega⟩ : Fin 128) l), rawV_apply _ _ _ _ h]
      · intro a; match a with | ⟨0, _⟩ => exact Nat.add_comm _ _ | ⟨1, _⟩ => exact (Nat.zero_add _).symm
      · intro b; match b with | ⟨0, _⟩ => rfl | ⟨1, _⟩ => rfl
    · have hj' : j.val = 127 := by omega
      rw [concatenate_pair_apply_right 0 _ _ concatenates_S127x128_S1x128_S128x128_d0 (ix2 j l) rfl rfl (ix2 (0 : Fin 1) l),
        lastV_apply _ _ _ _ h, hj']
      · intro b hb; match b with | ⟨0, _⟩ => exact absurd rfl hb | ⟨1, _⟩ => rfl
      · exact (Nat.zero_add 127).trans hj'.symm
  · by_cases hj : j.val = 0
    · rw [concatenate_pair_apply_left 0 _ _ concatenates_S1x128_S127x128_S128x128_d0 (ix2 j l) rfl (ix2 (0 : Fin 1) l),
        extractStridedSlice_apply _ _ _ _ (ix2 (0 : Fin 128) l), rawV_apply _ _ _ _ h, hj]
      · rfl
      · intro a; match a with | ⟨0, _⟩ => rfl | ⟨1, _⟩ => exact (Nat.zero_add _).symm
      · intro b; match b with | ⟨0, _⟩ => exact hj.symm | ⟨1, _⟩ => rfl
    · rw [concatenate_pair_apply_right 0 _ _ concatenates_S1x128_S127x128_S128x128_d0 (ix2 j l) rfl rfl
          (ix2 (⟨j.val - 1, by omega⟩ : Fin 127) l),
        extractStridedSlice_apply _ _ _ _ (ix2 (⟨j.val - 1, by omega⟩ : Fin 128) l), rawV_apply _ _ _ _ h]
      · intro a; match a with | ⟨0, _⟩ => exact (Nat.zero_add _).symm | ⟨1, _⟩ => exact (Nat.zero_add _).symm
      · intro b hb; match b with | ⟨0, _⟩ => exact absurd rfl hb | ⟨1, _⟩ => rfl
      · show j.val - 1 + 1 = j.val; omega

/-- The samples' points are the problem's. -/
theorem pointV_apply (h : Ray.Ordered (col vi l) (col tn l) (col tf l)) (n : ℕ) (hn : n < 3) (j : Fin 128) :
    pointV vi tn tf ro rd n hn (ix2 j l)
      = Ray.point (col vi l) (col tn l) (col tf l) (ro (ix2 ⟨n, hn⟩ l)) (rd (ix2 ⟨n, hn⟩ l)) j.val := by
  unfold pointV Ray.point Ray.depth
  rw [if_pos j.isLt, addf_apply, mulf_apply, shapeCast_self, shapeCast_self, wide_apply _ n hn, wide_apply _ n hn, rawV_apply _ _ _ _ h]

/-- The points of the samples that are none are the problem's. -/
theorem farV_apply (n : ℕ) (hn : n < 3) (j : Fin 32) :
    farV ro rd n hn (ix2 j l) = ro (ix2 ⟨n, hn⟩ l) + Ray.far * rd (ix2 ⟨n, hn⟩ l) := by
  unfold farV Ray.far
  rw [shapeCast_self, shapeCast_self, shapeCast_self, broadcastTo_apply _ _ _ (ix2 (0 : Fin 1) l), addf_apply, mulf_apply,
    extractStridedSlice_apply _ _ _ _ (ix2 (⟨n, hn⟩ : Fin 3) l), extractStridedSlice_apply _ _ _ _ (ix2 (⟨n, hn⟩ : Fin 3) l)]
  · rfl
  · intro a; match a with | ⟨0, _⟩ => rfl | ⟨1, _⟩ => exact (Nat.zero_add _).symm
  · intro a; match a with | ⟨0, _⟩ => rfl | ⟨1, _⟩ => exact (Nat.zero_add _).symm
  · intro a; match a with | ⟨0, _⟩ => rfl | ⟨1, _⟩ => rfl

end Cert.Chunk

end
-- ==== Proof.Blocks.lean ====
/- What the kernel's body leaves in each result block, as a function of the input blocks. -/
module

public import proofs.«01_k».proof.Proof.Pieces
public import proofs.«01_k».proof.Proof.Reads

@[expose] public section

set_option maxRecDepth 16384

noncomputable section

namespace Cert.Blocks

open Idealize.ShloMosaic Idealize.ShloMosaic.TcCoe Idealize.ShloMosaic.ValueIdx
open Cert.KernelIdeal Cert.KernelIdeal.Gen Cert.Chunk Cert.Pieces

/-! ## The results, ray by ray: arrays whose last axis is the rays -/

/-- One ray's column of an array of 32 rows. -/
def column {α : Type} {n : ℕ} (x : (⟨2, ![32, n]⟩ : Shape).Idx → α) (l : Fin n) : Fin 32 → α := fun i => x (ix2 i l)

variable {n : ℕ} (vi : (⟨2, ![32, n]⟩ : Shape).Idx → BitVec 32) (tn tf : (⟨2, ![32, n]⟩ : Shape).Idx → EReal)
  (ro rd : (⟨2, ![3, n]⟩ : Shape).Idx → EReal)

/-- Every ray's segments are in order. -/
def AllOrdered : Prop := ∀ l : Fin n, Ray.Ordered (column vi l) (column tn l) (column tf l)

/-- The depths. -/
def depths : (⟨2, ![160, n]⟩ : Shape).Idx → EReal := fun y =>
  Ray.depth (column vi (y 1)) (column tn (y 1)) (column tf (y 1)) (y 0).val

/-- The voxels. -/
def voxels : (⟨2, ![160, n]⟩ : Shape).Idx → BitVec 32 := fun y =>
  Ray.vox (column vi (y 1)) (column tn (y 1)) (column tf (y 1)) (y 0).val

/-- The lengths. -/
def lengths : (⟨2, ![160, n]⟩ : Shape).Idx → EReal := fun y =>
  Ray.dist (column vi (y 1)) (column tn (y 1)) (column tf (y 1)) (y 0).val

/-- The points: 160 rows for each of the three coordinates. -/
def points : (⟨2, ![480, n]⟩ : Shape).Idx → EReal := fun y =>
  Ray.point (column vi (y 1)) (column tn (y 1)) (column tf (y 1))
    (ro (ix2 ⟨(y 0).val / 160, Nat.div_lt_of_lt_mul (y 0).isLt⟩ (y 1))) (rd (ix2 ⟨(y 0).val / 160, Nat.div_lt_of_lt_mul (y 0).isLt⟩ (y 1)))
    ((y 0).val % 160)

/-! ## Reading a chunk, and reading the stores back -/

/-- Lane `l` of chunk `k`. -/
abbrev lane (k : Fin 16) (l : Fin 128) : Fin 2048 := ⟨128 * k.val + l.val, by have := k.isLt; have := l.isLt; omega⟩

/-- A chunk of a block of 32 rows holds the block's lanes. -/
theorem slot_apply {e : EltTy} (arg : Memref sig .tc .vmem S32x2048 e) (harg : arg.IsWhole) (x : Vec Ideal S32x2048 e) (k : Fin 16)
    (i : Fin 32) (l : Fin 128) : slot arg harg x k (ix2 i l) = x (ix2 i (lane k l)) := by
  unfold slot
  rw [View.readAt_eq_ld, harg.read_unread]
  refine congrArg x (funext fun a => Fin.ext ?_)
  match a with
  | ⟨0, _⟩ => show 0 + 1 * i.val = i.val; omega
  | ⟨1, _⟩ => show 128 * k.val + 1 * l.val = 128 * k.val + l.val; omega

/-- A chunk of a block of 3 rows holds the block's lanes. -/
theorem axis_apply (arg : Memref sig .tc .vmem S3x2048 .f32) (harg : arg.IsWhole) (x : Vec Ideal S3x2048 .f32) (k : Fin 16)
    (i : Fin 3) (l : Fin 128) : axis arg harg x k (ix2 i l) = x (ix2 i (lane k l)) := by
  unfold axis
  rw [View.readAt_eq_ld, harg.read_unread]
  refine congrArg x (funext fun a => Fin.ext ?_)
  match a with
  | ⟨0, _⟩ => show 0 + 1 * i.val = i.val; omega
  | ⟨1, _⟩ => show 128 * k.val + 1 * l.val = 128 * k.val + l.val; omega

/-- So a chunk's column is the block's. -/
theorem col_slot {e : EltTy} (arg : Memref sig .tc .vmem S32x2048 e) (harg : arg.IsWhole) (x : Vec Ideal S32x2048 e) (k : Fin 16)
    (l : Fin 128) : col (slot arg harg x k) l = column x (lane k l) :=
  funext fun i => slot_apply arg harg x k i l

/-- If both vectors of every part of every chunk agree with `G`, so does every store. -/
theorem stores_agree {N : ℕ} {e : EltTy} (V : Fin N → Fin 16 → S128x128.Idx → Elt Ideal e) (W : Fin N → Fin 16 → S32x128.Idx → Elt Ideal e)
    (G : (⟨2, ![160 * N, 2048]⟩ : Shape).Idx → Elt Ideal e)
    (hV : ∀ (n : Fin N) (k : Fin 16) (j : Fin 128) (l : Fin 128) (h : 160 * n.val + j.val < 160 * N),
      V n k (ix2 j l) = G (ix2 ⟨160 * n.val + j.val, h⟩ (lane k l)))
    (hW : ∀ (n : Fin N) (k : Fin 16) (j : Fin 32) (l : Fin 128) (h : 160 * n.val + (128 + j.val) < 160 * N),
      W n k (ix2 j l) = G (ix2 ⟨160 * n.val + (128 + j.val), h⟩ (lane k l))) :
    ∀ p ∈ stores V W, ∀ x : p.1.shape.Idx, p.2 x = G (p.1.emb x) := by
  intro p hp
  obtain ⟨k, -, hp⟩ := List.mem_flatMap.mp hp
  obtain ⟨n, -, hp⟩ := List.mem_flatMap.mp hp
  have hn := n.isLt
  rcases List.mem_cons.mp hp with rfl | hp
  · intro x
    obtain ⟨j, l, rfl⟩ : ∃ (j : Fin 32) (l : Fin 128), x = ix2 j l := ⟨x 0, x 1, eq_ix2 x⟩
    have hj := j.isLt
    refine (hW n k j l (by omega)).trans (congrArg G (funext fun a => Fin.ext ?_))
    match a with
    | ⟨0, _⟩ => show 160 * n.val + (128 + j.val) = 160 * n.val + 128 + 1 * j.val; omega
    | ⟨1, _⟩ => show 128 * k.val + l.val = 128 * k.val + 1 * l.val; omega
  · obtain rfl := List.mem_singleton.mp hp
    intro x
    obtain ⟨j, l, rfl⟩ : ∃ (j : Fin 128) (l : Fin 128), x = ix2 j l := ⟨x 0, x 1, eq_ix2 x⟩
    have hj := j.isLt
    refine (hV n k j l (by omega)).trans (congrArg G (funext fun a => Fin.ext ?_))
    match a with
    | ⟨0, _⟩ => show 160 * n.val + j.val = 160 * n.val + 1 * j.val; omega
    | ⟨1, _⟩ => show 128 * k.val + l.val = 128 * k.val + 1 * l.val; omega

/-- So the block the stores leave is `G`. -/
theorem canon_stores {N : ℕ} {e : EltTy} (V : Fin N → Fin 16 → S128x128.Idx → Elt Ideal e) (W : Fin N → Fin 16 → S32x128.Idx → Elt Ideal e)
    (G : (⟨2, ![160 * N, 2048]⟩ : Shape).Idx → Elt Ideal e) (y : (⟨2, ![160 * N, 2048]⟩ : Shape).Idx)
    (hc : ∃ p ∈ stores V W, y ∈ p.1.set)
    (hV : ∀ (n : Fin N) (k : Fin 16) (j : Fin 128) (l : Fin 128) (h : 160 * n.val + j.val < 160 * N),
      V n k (ix2 j l) = G (ix2 ⟨160 * n.val + j.val, h⟩ (lane k l)))
    (hW : ∀ (n : Fin N) (k : Fin 16) (j : Fin 32) (l : Fin 128) (h : 160 * n.val + (128 + j.val) < 160 * N),
      W n k (ix2 j l) = G (ix2 ⟨160 * n.val + (128 + j.val), h⟩ (lane k l))) :
    View.canon (stores V W) y = G y :=
  View.canon_apply_of_pieces G _ (stores_agree V W G hV hW) y hc

/-! ## The result blocks -/

variable (c : Dev nD) (i : grid0.Coords) (arg1 : Memref sig .tc .vmem S3x2048 .f32) (harg1 : arg1.IsWhole)
  (arg2 : Memref sig .tc .vmem S3x2048 .f32) (harg2 : arg2.IsWhole) (arg3 : Memref sig .tc .vmem S32x2048 .i32) (harg3 : arg3.IsWhole)
  (arg4 : Memref sig .tc .vmem S32x2048 .f32) (harg4 : arg4.IsWhole) (arg5 : Memref sig .tc .vmem S32x2048 .f32) (harg5 : arg5.IsWhole)
  (arg6 : Memref sig .tc .vmem S480x2048 .f32) (harg6 : arg6.IsWhole) (arg7 : Memref sig .tc .vmem S160x2048 .i32) (harg7 : arg7.IsWhole)
  (arg8 : Memref sig .tc .vmem S160x2048 .f32) (harg8 : arg8.IsWhole) (arg9 : Memref sig .tc .vmem S160x2048 .f32) (harg9 : arg9.IsWhole)
  (x0 : Vec Ideal S3x2048 .f32) (x1 : Vec Ideal S3x2048 .f32) (x2 : Vec Ideal S32x2048 .i32) (x3 : Vec Ideal S32x2048 .f32)
  (x4 : Vec Ideal S32x2048 .f32)

section
variable (h : AllOrdered (n := 2048) x2 x3 x4)
include h

/-- A chunk's rays are in order. -/
theorem chunk_ordered (k : Fin 16) (l : Fin 128) :
    Ray.Ordered (col (slot arg3 harg3 x2 k) l) (col (slot arg4 harg4 x3 k) l) (col (slot arg5 harg5 x4 k) l) := by
  rw [col_slot (e := .i32), col_slot (e := .f32), col_slot (e := .f32)]; exact h _

/-- The block of depths. -/
theorem out7 (y : S160x2048.Idx) :
    out0_A_7 (F := Ideal) c i arg1 harg1 arg2 harg2 arg3 harg3 arg4 harg4 arg5 harg5 arg6 harg6 arg7 harg7 arg8 harg8 arg9 harg9
      x0 x1 x2 x3 x4 y = depths x2 x3 x4 y := by
  have hc := cover0_A_7 (F := Ideal) c i arg1 harg1 arg2 harg2 arg3 harg3 arg4 harg4 arg5 harg5 arg6 harg6 arg7 harg7 arg8 harg8 arg9 harg9
    x0 x1 x2 x3 x4
  unfold out0_A_7
  rw [View.read_writes_eq_canon _ _ _ hc]
  rw [stores7] at hc ⊢
  refine canon_stores (N := 1) (e := .f32) _ _ (depths x2 x3 x4) y (hc y) (fun n k j l hj => ?_) fun n k j l hj => ?_
  · obtain rfl : n = 0 := Subsingleton.elim _ _
    rw [rawV_apply _ _ _ _ (chunk_ordered arg3 harg3 arg4 harg4 arg5 harg5 x2 x3 x4 h k l), col_slot (e := .i32), col_slot (e := .f32),
      col_slot (e := .f32)]
    show _ = Ray.depth _ _ _ (160 * 0 + j.val)
    rw [Nat.mul_zero, Nat.zero_add]
    exact (if_pos j.isLt).symm
  · obtain rfl : n = 0 := Subsingleton.elim _ _
    show _ = Ray.depth _ _ _ (160 * 0 + (128 + j.val))
    exact (if_neg (by omega)).symm

/-- The block of voxels. -/
theorem out6 (y : S160x2048.Idx) :
    out0_A_6 (F := Ideal) c i arg1 harg1 arg2 harg2 arg3 harg3 arg4 harg4 arg5 harg5 arg6 harg6 arg7 harg7 arg8 harg8 arg9 harg9
      x0 x1 x2 x3 x4 y = voxels x2 x3 x4 y := by
  have hc := cover0_A_6 (F := Ideal) c i arg1 harg1 arg2 harg2 arg3 harg3 arg4 harg4 arg5 harg5 arg6 harg6 arg7 harg7 arg8 harg8 arg9 harg9
    x0 x1 x2 x3 x4
  unfold out0_A_6
  rw [View.read_writes_eq_canon _ _ _ hc]
  rw [stores6] at hc ⊢
  refine canon_stores (N := 1) (e := .i32) _ _ (voxels x2 x3 x4) y (hc y) (fun n k j l hj => ?_) fun n k j l hj => ?_
  · obtain rfl : n = 0 := Subsingleton.elim _ _
    rw [voxV_apply _ _ _ _ (chunk_ordered arg3 harg3 arg4 harg4 arg5 harg5 x2 x3 x4 h k l), slot_apply (e := .i32), col_slot (e := .i32),
      col_slot (e := .f32), col_slot (e := .f32)]
    show _ = Ray.vox _ _ _ (160 * 0 + j.val)
    rw [Nat.mul_zero, Nat.zero_add]
    exact (if_pos j.isLt).symm
  · obtain rfl : n = 0 := Subsingleton.elim _ _
    show _ = Ray.vox _ _ _ (160 * 0 + (128 + j.val))
    exact (if_neg (by omega)).symm

/-- The block of lengths. -/
theorem out8 (y : S160x2048.Idx) :
    out0_A_8 (F := Ideal) c i arg1 harg1 arg2 harg2 arg3 harg3 arg4 harg4 arg5 harg5 arg6 harg6 arg7 harg7 arg8 harg8 arg9 harg9
      x0 x1 x2 x3 x4 y = lengths x2 x3 x4 y := by
  have hc := cover0_A_8 (F := Ideal) c i arg1 harg1 arg2 harg2 arg3 harg3 arg4 harg4 arg5 harg5 arg6 harg6 arg7 harg7 arg8 harg8 arg9 harg9
    x0 x1 x2 x3 x4
  unfold out0_A_8
  rw [View.read_writes_eq_canon _ _ _ hc]
  rw [stores8] at hc ⊢
  refine canon_stores (N := 1) (e := .f32) _ _ (lengths x2 x3 x4) y (hc y) (fun n k j l hj => ?_) fun n k j l hj => ?_
  · obtain rfl : n = 0 := Subsingleton.elim _ _
    rw [distV_apply _ _ _ _ (chunk_ordered arg3 harg3 arg4 harg4 arg5 harg5 x2 x3 x4 h k l), col_slot (e := .i32), col_slot (e := .f32),
      col_slot (e := .f32)]
    show _ = Ray.dist _ _ _ (160 * 0 + j.val)
    rw [Nat.mul_zero, Nat.zero_add]
  · obtain rfl : n = 0 := Subsingleton.elim _ _
    show _ = Ray.dist _ _ _ (160 * 0 + (128 + j.val))
    exact Ideal.ofBits_zero_f32.trans (if_neg (by omega)).symm

/-- The points at row `j` of part `n`. -/
theorem points_row (n : Fin 3) (j : ℕ) (hj : j < 160) (l : Fin 2048) (hr : 160 * n.val + j < 480) :
    points x2 x3 x4 x0 x1 (ix2 ⟨160 * n.val + j, hr⟩ l)
      = Ray.point (column x2 l) (column x3 l) (column x4 l) (x0 (ix2 n l)) (x1 (ix2 n l)) j := by
  have h1 : (160 * n.val + j) / 160 = n.val := by omega
  have h2 : (160 * n.val + j) % 160 = j := by omega
  show Ray.point _ _ _ (x0 (ix2 ⟨(160 * n.val + j) / 160, _⟩ l)) (x1 (ix2 ⟨(160 * n.val + j) / 160, _⟩ l)) ((160 * n.val + j) % 160) = _
  have e : (⟨(160 * n.val + j) / 160, by omega⟩ : Fin 3) = n := Fin.ext h1
  rw [h2, e]

/-- The block of points. -/
theorem out5 (y : S480x2048.Idx) :
    out0_A_5 (F := Ideal) c i arg1 harg1 arg2 harg2 arg3 harg3 arg4 harg4 arg5 harg5 arg6 harg6 arg7 harg7 arg8 harg8 arg9 harg9
      x0 x1 x2 x3 x4 y = points x2 x3 x4 x0 x1 y := by
  have hc := cover0_A_5 (F := Ideal) c i arg1 harg1 arg2 harg2 arg3 harg3 arg4 harg4 arg5 harg5 arg6 harg6 arg7 harg7 arg8 harg8 arg9 harg9
    x0 x1 x2 x3 x4
  unfold out0_A_5
  rw [View.read_writes_eq_canon _ _ _ hc]
  rw [stores5] at hc ⊢
  refine canon_stores (N := 3) (e := .f32) _ _ (points x2 x3 x4 x0 x1) y (hc y) (fun n k j l hj => ?_) fun n k j l hj => ?_
  · rw [pointV_apply _ _ _ _ _ _ (chunk_ordered arg3 harg3 arg4 harg4 arg5 harg5 x2 x3 x4 h k l), axis_apply, axis_apply,
      col_slot (e := .i32), col_slot (e := .f32), col_slot (e := .f32)]
    exact (points_row x0 x1 x2 x3 x4 h n j.val (by omega) (lane k l) hj).symm
  · rw [farV_apply, axis_apply, axis_apply]
    refine Eq.trans ?_ (points_row x0 x1 x2 x3 x4 h n (128 + j.val) (by omega) (lane k l) hj).symm
    unfold Ray.point Ray.depth
    rw [if_neg (by omega)]

end

end Cert.Blocks

end
-- ==== Proof.Arrays.lean ====
/- The kernel's four results as functions of its arguments. -/
module

public import proofs.«01_k».proof.Proof.Blocks

@[expose] public section

set_option maxRecDepth 16384

noncomputable section

namespace Cert.Arrays

open Idealize.ShloMosaic Idealize.ShloMosaic.TcCoe Idealize.ShloMosaic.ValueIdx Idealize.SL.Sem
open Cert.KernelIdeal Cert.KernelIdeal.Gen Cert.Blocks
open Idealize.ShloMosaic.Pipeline (Dat Window)

variable (m : (ℓ : Loc nD τ sig) → Buf (Elt Ideal) ℓ) (ρ : Dev nD → PrngReg) (c : Dev nD)

/-! ## Where a grid point's blocks lie: point `t` takes the rays `2048 · t` to `2048 · t + 2047` -/

/-- Each window's block index: zero on the rows, the point on the rays. -/
theorem index_facts (t : Fin cfg0.N) (w : Fin cfg0.W) :
    (∀ a : Fin (cfg0.win w).shape.rank, a.val = 0 → (cfg0.win w).index t a = 0)
      ∧ ∀ a : Fin (cfg0.win w).shape.rank, a.val = 1 → (cfg0.win w).index t a = t.val := by
  revert t w; decide +kernel

/-- There are 32 grid points. -/
theorem points_eq : cfg0.N = 32 := by decide +kernel

/-- The ray in lane `l` of point `t`. -/
abbrev ray (t : Fin cfg0.N) (l : Fin 2048) : Fin 65536 :=
  ⟨2048 * t.val + l.val, by have := t.isLt; have := l.isLt; have := points_eq; omega⟩

/-- Every window is block-indexed. -/
theorem blocked (w : Fin cfg0.W) : (cfg0.win w).kind = .blocked := by revert w; decide

/-- Every window's block is 2048 rays wide. -/
theorem width (w : Fin cfg0.W) (a : Fin (cfg0.win w).shape.rank) (ha : a.val = 1) : (cfg0.win w).size a = 2048 := by
  revert w a; decide +kernel

/-- A block keeps the rows. -/
theorem rect_row (w : Fin cfg0.W) (t : Fin cfg0.N) (y : ((cfg0.win w).xblock (cfg0.grid.coords t)).Idx)
    (a : Fin (cfg0.win w).shape.rank) (ha : a.val = 0) : (((cfg0.win w).rect t).emb y a : ℕ) = (y a : ℕ) := by
  rw [Window.rect_emb_val (cfg0.win w) t y a (blocked w), (index_facts t w).1 a ha, Nat.zero_mul, Nat.zero_add]

/-- A block's lane is its ray. -/
theorem rect_ray (w : Fin cfg0.W) (t : Fin cfg0.N) (y : ((cfg0.win w).xblock (cfg0.grid.coords t)).Idx)
    (a : Fin (cfg0.win w).shape.rank) (ha : a.val = 1) : (((cfg0.win w).rect t).emb y a : ℕ) = 2048 * t.val + (y a : ℕ) := by
  rw [Window.rect_emb_val (cfg0.win w) t y a (blocked w), (index_facts t w).2 a ha, width w a ha, Nat.mul_comm]

/-! ## The input blocks -/

/-- The blocks of the origins. -/
theorem block0 (t : Fin cfg0.N) (i : Fin 3) (l : Fin 2048) : iblk m c 0 t (ix2 i l) = V m c main_v0 (ix2 i (ray t l)) :=
  congrArg (V m c main_v0) (funext fun a => Fin.ext (match a with
    | ⟨0, _⟩ => rect_row 0 t (ix2 i l) 0 rfl
    | ⟨1, _⟩ => rect_ray 0 t (ix2 i l) 1 rfl))

/-- The blocks of the directions. -/
theorem block1 (t : Fin cfg0.N) (i : Fin 3) (l : Fin 2048) : iblk m c 1 t (ix2 i l) = V m c main_v1 (ix2 i (ray t l)) :=
  congrArg (V m c main_v1) (funext fun a => Fin.ext (match a with
    | ⟨0, _⟩ => rect_row 1 t (ix2 i l) 0 rfl
    | ⟨1, _⟩ => rect_ray 1 t (ix2 i l) 1 rfl))

/-- The blocks of the voxels. -/
theorem block2 (t : Fin cfg0.N) (l : Fin 2048) : column (n := 2048) (iblk m c 2 t) l = column (n := 65536) (V m c main_v2) (ray t l) :=
  funext fun i => congrArg (V m c main_v2) (funext fun a => Fin.ext (match a with
    | ⟨0, _⟩ => rect_row 2 t (ix2 i l) 0 rfl
    | ⟨1, _⟩ => rect_ray 2 t (ix2 i l) 1 rfl))

/-- The blocks of the near ends. -/
theorem block3 (t : Fin cfg0.N) (l : Fin 2048) : column (n := 2048) (iblk m c 3 t) l = column (n := 65536) (V m c main_v3) (ray t l) :=
  funext fun i => congrArg (V m c main_v3) (funext fun a => Fin.ext (match a with
    | ⟨0, _⟩ => rect_row 3 t (ix2 i l) 0 rfl
    | ⟨1, _⟩ => rect_ray 3 t (ix2 i l) 1 rfl))

/-- The blocks of the far ends. -/
theorem block4 (t : Fin cfg0.N) (l : Fin 2048) : column (n := 2048) (iblk m c 4 t) l = column (n := 65536) (V m c main_v4) (ray t l) :=
  funext fun i => congrArg (V m c main_v4) (funext fun a => Fin.ext (match a with
    | ⟨0, _⟩ => rect_row 4 t (ix2 i l) 0 rfl
    | ⟨1, _⟩ => rect_ray 4 t (ix2 i l) 1 rfl))

/-! ## Where the result blocks lie -/

/-- Point and lane of a ray. -/
theorem exists_ray (r : Fin 65536) : ∃ (t : Fin cfg0.N) (l : Fin 2048), r = ray t l :=
  ⟨⟨r.val / 2048, by have := points_eq; have := r.isLt; omega⟩, ⟨r.val % 2048, Nat.mod_lt _ (by decide)⟩,
    Fin.ext (Nat.div_add_mod r.val 2048).symm⟩

/-- A block of points. -/
theorem emb5 (t : Fin cfg0.N) (j : Fin 480) (l : Fin 2048) : ((cfg0.win 5).blk t).view.emb (ix2 j l) = ix2 j (ray t l) :=
  funext fun a => Fin.ext (match a with
    | ⟨0, _⟩ => rect_row 5 t (ix2 j l) 0 rfl
    | ⟨1, _⟩ => rect_ray 5 t (ix2 j l) 1 rfl)

/-- A block of voxels. -/
theorem emb6 (t : Fin cfg0.N) (j : Fin 160) (l : Fin 2048) : ((cfg0.win 6).blk t).view.emb (ix2 j l) = ix2 j (ray t l) :=
  funext fun a => Fin.ext (match a with
    | ⟨0, _⟩ => rect_row 6 t (ix2 j l) 0 rfl
    | ⟨1, _⟩ => rect_ray 6 t (ix2 j l) 1 rfl)

/-- A block of depths. -/
theorem emb7 (t : Fin cfg0.N) (j : Fin 160) (l : Fin 2048) : ((cfg0.win 7).blk t).view.emb (ix2 j l) = ix2 j (ray t l) :=
  funext fun a => Fin.ext (match a with
    | ⟨0, _⟩ => rect_row 7 t (ix2 j l) 0 rfl
    | ⟨1, _⟩ => rect_ray 7 t (ix2 j l) 1 rfl)

/-- A block of lengths. -/
theorem emb8 (t : Fin cfg0.N) (j : Fin 160) (l : Fin 2048) : ((cfg0.win 8).blk t).view.emb (ix2 j l) = ix2 j (ray t l) :=
  funext fun a => Fin.ext (match a with
    | ⟨0, _⟩ => rect_row 8 t (ix2 j l) 0 rfl
    | ⟨1, _⟩ => rect_ray 8 t (ix2 j l) 1 rfl)

/-! ## The result arrays when the grid is done -/

section
variable (h : AllOrdered (n := 65536) (V m c main_v2) (V m c main_v3) (V m c main_v4))
include h

/-- A block's rays are in order. -/
theorem block_ordered (t : Fin cfg0.N) : AllOrdered (n := 2048) (iblk m c 2 t) (iblk m c 3 t) (iblk m c 4 t) := fun l => by
  rw [block2, block3, block4]; exact h _

/-- The array of depths. -/
theorem final7 : (dats m 0 c).arrAt 7 cfg0.N = depths (n := 65536) (V m c main_v2) (V m c main_v3) (V m c main_v4) := by
  refine (dats m 0 c).arrAt_eq_of_cover 7 (depths (n := 65536) (V m c main_v2) (V m c main_v3) (V m c main_v4)) (fun t _ => ?_) fun i => ?_
  · show (cfg0.win 7).cut (grid0.coords t) ((dats m 0 c).after 7 t) = _
    rw [after0_7]; unfold outsAt0
    funext y
    obtain ⟨j, l, rfl⟩ : ∃ (j : Fin 160) (l : Fin 2048), y = ix2 j l := ⟨y 0, y 1, eq_ix2 y⟩
    refine (out7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) _ _ _ (block_ordered m c h t) (ix2 j l)).trans ?_
    show _ = depths (n := 65536) _ _ _ (((cfg0.win 7).blk t).view.emb (ix2 j l))
    rw [emb7]
    show Ray.depth (column _ l) (column _ l) (column _ l) j.val = Ray.depth _ _ _ j.val
    rw [block2, block3, block4]
  · obtain ⟨j, r, rfl⟩ : ∃ (j : Fin 160) (r : Fin 65536), i = ix2 j r := ⟨i 0, i 1, eq_ix2 i⟩
    obtain ⟨t, l, rfl⟩ := exists_ray r
    exact ⟨t, flush0_7 t, emb7 t j l ▸ ((cfg0.win 7).blk t).view.emb_mem_set (ix2 j l)⟩

/-- The array of voxels. -/
theorem final6 : (dats m 0 c).arrAt 6 cfg0.N = voxels (n := 65536) (V m c main_v2) (V m c main_v3) (V m c main_v4) := by
  refine (dats m 0 c).arrAt_eq_of_cover 6 (voxels (n := 65536) (V m c main_v2) (V m c main_v3) (V m c main_v4)) (fun t _ => ?_) fun i => ?_
  · show (cfg0.win 6).cut (grid0.coords t) ((dats m 0 c).after 6 t) = _
    rw [after0_6]; unfold outsAt0
    funext y
    obtain ⟨j, l, rfl⟩ : ∃ (j : Fin 160) (l : Fin 2048), y = ix2 j l := ⟨y 0, y 1, eq_ix2 y⟩
    refine (out6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) _ _ _ (block_ordered m c h t) (ix2 j l)).trans ?_
    show _ = voxels (n := 65536) _ _ _ (((cfg0.win 6).blk t).view.emb (ix2 j l))
    rw [emb6]
    show Ray.vox (column _ l) (column _ l) (column _ l) j.val = Ray.vox _ _ _ j.val
    rw [block2, block3, block4]
  · obtain ⟨j, r, rfl⟩ : ∃ (j : Fin 160) (r : Fin 65536), i = ix2 j r := ⟨i 0, i 1, eq_ix2 i⟩
    obtain ⟨t, l, rfl⟩ := exists_ray r
    exact ⟨t, flush0_6 t, emb6 t j l ▸ ((cfg0.win 6).blk t).view.emb_mem_set (ix2 j l)⟩

/-- The array of lengths. -/
theorem final8 : (dats m 0 c).arrAt 8 cfg0.N = lengths (n := 65536) (V m c main_v2) (V m c main_v3) (V m c main_v4) := by
  refine (dats m 0 c).arrAt_eq_of_cover 8 (lengths (n := 65536) (V m c main_v2) (V m c main_v3) (V m c main_v4)) (fun t _ => ?_) fun i => ?_
  · show (cfg0.win 8).cut (grid0.coords t) ((dats m 0 c).after 8 t) = _
    rw [after0_8]; unfold outsAt0
    funext y
    obtain ⟨j, l, rfl⟩ : ∃ (j : Fin 160) (l : Fin 2048), y = ix2 j l := ⟨y 0, y 1, eq_ix2 y⟩
    refine (out8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) _ _ _ (block_ordered m c h t) (ix2 j l)).trans ?_
    show _ = lengths (n := 65536) _ _ _ (((cfg0.win 8).blk t).view.emb (ix2 j l))
    rw [emb8]
    show Ray.dist (column _ l) (column _ l) (column _ l) j.val = Ray.dist _ _ _ j.val
    rw [block2, block3, block4]
  · obtain ⟨j, r, rfl⟩ : ∃ (j : Fin 160) (r : Fin 65536), i = ix2 j r := ⟨i 0, i 1, eq_ix2 i⟩
    obtain ⟨t, l, rfl⟩ := exists_ray r
    exact ⟨t, flush0_8 t, emb8 t j l ▸ ((cfg0.win 8).blk t).view.emb_mem_set (ix2 j l)⟩

/-- The array of points. -/
theorem final5 : (dats m 0 c).arrAt 5 cfg0.N
    = points (n := 65536) (V m c main_v2) (V m c main_v3) (V m c main_v4) (V m c main_v0) (V m c main_v1) := by
  refine (dats m 0 c).arrAt_eq_of_cover 5
    (points (n := 65536) (V m c main_v2) (V m c main_v3) (V m c main_v4) (V m c main_v0) (V m c main_v1)) (fun t _ => ?_) fun i => ?_
  · show (cfg0.win 5).cut (grid0.coords t) ((dats m 0 c).after 5 t) = _
    rw [after0_5]; unfold outsAt0
    funext y
    obtain ⟨j, l, rfl⟩ : ∃ (j : Fin 480) (l : Fin 2048), y = ix2 j l := ⟨y 0, y 1, eq_ix2 y⟩
    refine (out5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (iblk m c 0 t) (iblk m c 1 t) _ _ _ (block_ordered m c h t) (ix2 j l)).trans ?_
    show _ = points (n := 65536) _ _ _ _ _ (((cfg0.win 5).blk t).view.emb (ix2 j l))
    rw [emb5]
    show Ray.point (column _ l) (column _ l) (column _ l) (iblk m c 0 t (ix2 _ l)) (iblk m c 1 t (ix2 _ l)) (j.val % 160)
      = Ray.point _ _ _ _ _ (j.val % 160)
    rw [block0, block1, block2, block3, block4]
  · obtain ⟨j, r, rfl⟩ : ∃ (j : Fin 480) (r : Fin 65536), i = ix2 j r := ⟨i 0, i 1, eq_ix2 i⟩
    obtain ⟨t, l, rfl⟩ := exists_ray r
    exact ⟨t, flush0_5 t, emb5 t j l ▸ ((cfg0.win 5).blk t).view.emb_mem_set (ix2 j l)⟩

end

/-! ## The host's transposes before the grid -/

/-- The origins as the grid finds them. -/
theorem entry0 : V m c main_v0 = transpose S3x65536 [1, 0] (m ((c : Thread nD τ).loc main_arg0)) transposes_S65536x3_S3x65536_1_0 := by
  show StableHlo.after hostOps0 (fun b => m (c, b)) (Proc.devRef .tc main_v0) = _
  after_results

/-- The directions as the grid finds them. -/
theorem entry1 : V m c main_v1 = transpose S3x65536 [1, 0] (m ((c : Thread nD τ).loc main_arg1)) transposes_S65536x3_S3x65536_1_0 := by
  show StableHlo.after hostOps0 (fun b => m (c, b)) (Proc.devRef .tc main_v1) = _
  after_results

/-- The voxels as the grid finds them. -/
theorem entry2 : V m c main_v2 = transpose S32x65536 [1, 0] (m ((c : Thread nD τ).loc main_arg2)) transposes_S65536x32_S32x65536_1_0 := by
  show StableHlo.after hostOps0 (fun b => m (c, b)) (Proc.devRef .tc main_v2) = _
  after_results

/-- The near ends as the grid finds them. -/
theorem entry3 : V m c main_v3 = transpose S32x65536 [1, 0] (m ((c : Thread nD τ).loc main_arg3)) transposes_S65536x32_S32x65536_1_0 := by
  show StableHlo.after hostOps0 (fun b => m (c, b)) (Proc.devRef .tc main_v3) = _
  after_results

/-- The far ends as the grid finds them. -/
theorem entry4 : V m c main_v4 = transpose S32x65536 [1, 0] (m ((c : Thread nD τ).loc main_arg4)) transposes_S65536x32_S32x65536_1_0 := by
  show StableHlo.after hostOps0 (fun b => m (c, b)) (Proc.devRef .tc main_v4) = _
  after_results

/-! ## The host's transposes after the grid -/

/-- The windows' arrays are distinct buffers. -/
theorem arrays_distinct : Function.Injective (Pipeline.arrRef spec0) := by decide

/-- The voxels' result. -/
theorem exit8 : Pipeline.afterTail₀ cfgs (dats m) 0 (V0 m) [hostOps1] c main_v8
    = transpose S65536x160 [1, 0] ((dats m 0 c).arrAt 6 cfg0.N) transposes_S160x65536_S65536x160_1_0 := by
  unfold Pipeline.afterTail₀
  show StableHlo.after hostOps1 _ _ = _
  after_results
  exact congrArg (transpose S65536x160 [1, 0] · transposes_S160x65536_S65536x160_1_0)
    (Pipeline.withArrays_arr spec0 arrays_distinct c (V0 m c) (fun w => (dats m 0 c).arrAt w cfg0.N) 6)

/-- The depths' result. -/
theorem exit9 : Pipeline.afterTail₀ cfgs (dats m) 0 (V0 m) [hostOps1] c main_v9
    = transpose S65536x160 [1, 0] ((dats m 0 c).arrAt 7 cfg0.N) transposes_S160x65536_S65536x160_1_0 := by
  unfold Pipeline.afterTail₀
  show StableHlo.after hostOps1 _ _ = _
  after_results
  exact congrArg (transpose S65536x160 [1, 0] · transposes_S160x65536_S65536x160_1_0)
    (Pipeline.withArrays_arr spec0 arrays_distinct c (V0 m c) (fun w => (dats m 0 c).arrAt w cfg0.N) 7)

/-- The lengths' result. -/
theorem exit10 : Pipeline.afterTail₀ cfgs (dats m) 0 (V0 m) [hostOps1] c main_v10
    = transpose S65536x160 [1, 0] ((dats m 0 c).arrAt 8 cfg0.N) transposes_S160x65536_S65536x160_1_0 := by
  unfold Pipeline.afterTail₀
  show StableHlo.after hostOps1 _ _ = _
  after_results
  exact congrArg (transpose S65536x160 [1, 0] · transposes_S160x65536_S65536x160_1_0)
    (Pipeline.withArrays_arr spec0 arrays_distinct c (V0 m c) (fun w => (dats m 0 c).arrAt w cfg0.N) 8)

/-- The points' result. -/
theorem exit7 : Pipeline.afterTail₀ cfgs (dats m) 0 (V0 m) [hostOps1] c main_v7
    = transpose S65536x160x3 [2, 1, 0] (shapeCast S3x160x65536 ((dats m 0 c).arrAt 5 cfg0.N : S480x65536.Idx → EReal)
        shapeCasts_S480x65536_S3x160x65536) transposes_S3x160x65536_S65536x160x3_2_1_0 := by
  unfold Pipeline.afterTail₀
  show StableHlo.after hostOps1 _ _ = _
  after_results
  exact congrArg (fun x : S480x65536.Idx → EReal => transpose S65536x160x3 [2, 1, 0] (shapeCast S3x160x65536 x
      shapeCasts_S480x65536_S3x160x65536) transposes_S3x160x65536_S65536x160x3_2_1_0)
    (Pipeline.withArrays_arr spec0 arrays_distinct c (V0 m c) (fun w => (dats m 0 c).arrAt w cfg0.N) 5)

end Cert.Arrays

end
-- ==== Proof.Results.lean ====
/- The kernel's four results at the end of its run, ray by ray. -/
module

public import proofs.«01_k».proof.Proof.Rows
public import proofs.«01_k».proof.Proof.Arrays

@[expose] public section

set_option maxRecDepth 16384

noncomputable section

namespace Cert.Results

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The argument arrays in the order they are passed: origins, directions, voxels, near ends and far ends. -/
abbrev arg0 : (⟨2, ![65536, 3]⟩ : Shape).Idx → EReal := m ((c.tc : Thread nD τ).loc main_arg0)
@[inherit_doc arg0] abbrev arg1 : (⟨2, ![65536, 3]⟩ : Shape).Idx → EReal := m ((c.tc : Thread nD τ).loc main_arg1)
@[inherit_doc arg0] abbrev arg2 : (⟨2, ![65536, 32]⟩ : Shape).Idx → BitVec 32 := m ((c.tc : Thread nD τ).loc main_arg2)
@[inherit_doc arg0] abbrev arg3 : (⟨2, ![65536, 32]⟩ : Shape).Idx → EReal := m ((c.tc : Thread nD τ).loc main_arg3)
@[inherit_doc arg0] abbrev arg4 : (⟨2, ![65536, 32]⟩ : Shape).Idx → EReal := m ((c.tc : Thread nD τ).loc main_arg4)

/-- A transposed array read at swapped coordinates. -/
theorem swap {α : Type} {a b : ℕ} (x : (⟨2, ![a, b]⟩ : Shape).Idx → α) (h : (⟨2, ![a, b]⟩ : Shape).Transposes [1, 0] ⟨2, ![b, a]⟩)
    (i : Fin b) (j : Fin a) : transpose ⟨2, ![b, a]⟩ [1, 0] x h (ix2 i j) = x (ix2 j i) :=
  transpose_apply [1, 0] x h (ix2 i j) (ix2 j i) fun d => match d with
    | ⟨0, _⟩ => rfl
    | ⟨1, _⟩ => rfl

/-- Column `r` of the voxels the grid finds is row `r` of the argument. -/
theorem col2 (r : Fin 65536) : Blocks.column (n := 65536) (V m c main_v2) r = Rows.row (arg2 m c) r := by
  funext i; rw [Arrays.entry2]; exact swap (arg2 m c) _ i r

/-- Column `r` of the near ends the grid finds is row `r` of the argument. -/
theorem col3 (r : Fin 65536) : Blocks.column (n := 65536) (V m c main_v3) r = Rows.row (arg3 m c) r := by
  funext i; rw [Arrays.entry3]; exact swap (arg3 m c) _ i r

/-- Column `r` of the far ends the grid finds is row `r` of the argument. -/
theorem col4 (r : Fin 65536) : Blocks.column (n := 65536) (V m c main_v4) r = Rows.row (arg4 m c) r := by
  funext i; rw [Arrays.entry4]; exact swap (arg4 m c) _ i r

/-- Every ray of the arguments is ordered. -/
def Ordered : Prop := ∀ r, Ray.Ordered (Rows.row (arg2 m c) r) (Rows.row (arg3 m c) r) (Rows.row (arg4 m c) r)

variable (h : Ordered m c)
include h

/-- Every ray the grid finds is ordered. -/
theorem ordered : Blocks.AllOrdered (n := 65536) (V m c main_v2) (V m c main_v3) (V m c main_v4) := fun r => by
  rw [col2, col3, col4]; exact h r

/-- The depths at the end of the run. -/
theorem depths_end : Pipeline.afterTail₀ cfgs (dats m) 0 (V0 m) [hostOps1] c main_v9
    = Rows.depths (n := 65536) (arg2 m c) (arg3 m c) (arg4 m c) := by
  funext y
  obtain ⟨r, j, rfl⟩ : ∃ (r : Fin 65536) (j : Fin 160), y = ix2 r j := ⟨y 0, y 1, eq_ix2 y⟩
  rw [Arrays.exit9]
  refine (swap _ _ r j).trans ?_
  rw [Arrays.final7 m c (ordered m c h)]
  show Ray.depth (Blocks.column _ r) (Blocks.column _ r) (Blocks.column _ r) j.val = Ray.depth _ _ _ j.val
  rw [col2, col3, col4]

/-- The voxels at the end of the run. -/
theorem voxels_end : Pipeline.afterTail₀ cfgs (dats m) 0 (V0 m) [hostOps1] c main_v8
    = Rows.voxels (n := 65536) (arg2 m c) (arg3 m c) (arg4 m c) := by
  funext y
  obtain ⟨r, j, rfl⟩ : ∃ (r : Fin 65536) (j : Fin 160), y = ix2 r j := ⟨y 0, y 1, eq_ix2 y⟩
  rw [Arrays.exit8]
  refine (swap _ _ r j).trans ?_
  rw [Arrays.final6 m c (ordered m c h)]
  show Ray.vox (Blocks.column _ r) (Blocks.column _ r) (Blocks.column _ r) j.val = Ray.vox _ _ _ j.val
  rw [col2, col3, col4]

/-- The lengths at the end of the run. -/
theorem lengths_end : Pipeline.afterTail₀ cfgs (dats m) 0 (V0 m) [hostOps1] c main_v10
    = Rows.lengths (n := 65536) (arg2 m c) (arg3 m c) (arg4 m c) := by
  funext y
  obtain ⟨r, j, rfl⟩ : ∃ (r : Fin 65536) (j : Fin 160), y = ix2 r j := ⟨y 0, y 1, eq_ix2 y⟩
  rw [Arrays.exit10]
  refine (swap _ _ r j).trans ?_
  rw [Arrays.final8 m c (ordered m c h)]
  show Ray.dist (Blocks.column _ r) (Blocks.column _ r) (Blocks.column _ r) j.val = Ray.dist _ _ _ j.val
  rw [col2, col3, col4]

/-- The points at the end of the run. -/
theorem points_end : Pipeline.afterTail₀ cfgs (dats m) 0 (V0 m) [hostOps1] c main_v7
    = Rows.points (n := 65536) (arg0 m c) (arg1 m c) (arg2 m c) (arg3 m c) (arg4 m c) := by
  funext y
  obtain ⟨r, j, a, rfl⟩ : ∃ (r : Fin 65536) (j : Fin 160) (a : Fin 3), y = ix3 r j a := ⟨y 0, y 1, y 2, eq_ix3 y⟩
  have ha := a.isLt
  have hj := j.isLt
  have hq : a.val * 160 + j.val < 480 := by omega
  rw [Arrays.exit7]
  refine (transpose_apply [2, 1, 0] _ _ (ix3 r j a) (ix3 a j r) fun d => match d with
    | ⟨0, _⟩ => rfl
    | ⟨1, _⟩ => rfl
    | ⟨2, _⟩ => rfl).trans ?_
  refine (shapeCast_apply _ _ (ix3 a j r) (ix2 (⟨a.val * 160 + j.val, hq⟩ : Fin 480) r) ?_).trans ?_
  · rw [Shape.rowMajor_val_two, Shape.rowMajor_val_three]
    rfl
  rw [Arrays.final5 m c (ordered m c h)]
  have hd : (⟨(a.val * 160 + j.val) / 160, by omega⟩ : Fin 3) = a := Fin.ext (show (a.val * 160 + j.val) / 160 = a.val by omega)
  have hm : (a.val * 160 + j.val) % 160 = j.val := by omega
  show Ray.point (Blocks.column _ r) (Blocks.column _ r) (Blocks.column _ r)
      (V m c main_v0 (ix2 (⟨(a.val * 160 + j.val) / 160, _⟩ : Fin 3) r)) (V m c main_v1 (ix2 (⟨(a.val * 160 + j.val) / 160, _⟩ : Fin 3) r))
      ((a.val * 160 + j.val) % 160) = Ray.point _ _ _ (arg0 m c (ix2 r a)) (arg1 m c (ix2 r a)) j.val
  rw [col2, col3, col4, hd, hm, Arrays.entry0, Arrays.entry1]
  exact congrArg₂ (fun o d => Ray.point _ _ _ o d j.val) (swap (arg0 m c) _ a r) (swap (arg1 m c) _ a r)

end Cert.Results

end
-- ==== Proof.HostOps.lean ====
module

public import Idealize.ShloMosaic.Lib.Pipeline.Value
public import Idealize.ShloMosaic.Lib.ValueIdxCore
public import Idealize.ShloMosaic.Lib.IndicatorCount
public import Idealize.ShloMosaic.PureOps.Ideal.Laws

/-! Host operations of the reference read at an index: the running sum along a row, the count of set bits along the
last axis, the conjunction over an axis of size one, and the element taken from each row by an index. -/

@[expose] public section

noncomputable section

namespace Cert.HostOps

open Idealize.ShloMosaic Idealize.ShloMosaic.ValueIdx
open scoped BigOperators

/-- A left fold that adds `g n` for each `n` of a list, started at `v`, is `v` plus the sum of the list. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The sum over a window of 32 that ends at position `i`, with `0` before the start, is the sum of the elements up to
and including position `i`. -/
theorem sum_window_end (f : Fin 32 → EReal) (i : Fin 32) :
    (∑ k : Fin 32, if h : 31 ≤ i.val + k.val ∧ i.val + k.val - 31 < 32 then f ⟨i.val + k.val - 31, h.2⟩ else 0)
      = ∑ k : Fin 32, if k ≤ i then f k else 0 := by
  refine Finset.sum_bij_ne_zero (fun k _ _ => (⟨i.val + k.val - 31, by omega⟩ : Fin 32)) (fun _ _ _ => Finset.mem_univ _)
    ?_ ?_ ?_
  · intro a _ ha b _ hb hab
    have ha' : 31 ≤ i.val + a.val := by
      by_contra hc; exact ha (dif_neg fun h => hc h.1)
    have hb' : 31 ≤ i.val + b.val := by
      by_contra hc; exact hb (dif_neg fun h => hc h.1)
    have := congrArg Fin.val hab
    exact Fin.ext (by simp only at this; omega)
  · intro b _ hb
    have hbi : b ≤ i := by
      by_contra hc; exact hb (if_neg hc)
    have hbi' : b.val ≤ i.val := hbi
    have hin : 31 ≤ i.val + (b.val + 31 - i.val) ∧ i.val + (b.val + 31 - i.val) - 31 < 32 := by omega
    have he : (⟨i.val + (b.val + 31 - i.val) - 31, hin.2⟩ : Fin 32) = b := Fin.ext (by simp only; omega)
    refine ⟨⟨b.val + 31 - i.val, by omega⟩, Finset.mem_univ _, ?_, he⟩
    rw [dif_pos hin, he]
    rwa [if_pos hbi] at hb
  · intro a _ ha
    have ha' : 31 ≤ i.val + a.val := by
      by_contra hc; exact ha (dif_neg fun h => hc h.1)
    have hin : 31 ≤ i.val + a.val ∧ i.val + a.val - 31 < 32 := by omega
    have hle : (⟨i.val + a.val - 31, hin.2⟩ : Fin 32) ≤ i := by
      show i.val + a.val - 31 ≤ i.val
      omega
    rw [dif_pos hin, if_pos hle]

/-- The positions of a window of one row and 32 columns are its columns. -/
def windowCol : (⟨2, ![1, 32]⟩ : Shape).Idx ≃ Fin 32 where
  toFun q := ⟨(q 1).val, idx2_lt1 q⟩
  invFun k := ix2 (0 : Fin 1) k
  left_inv q := by
    funext a
    match a with
    | ⟨0, _⟩ => exact Fin.ext (by have := idx2_lt0 q; show 0 = (q 0).val; omega)
    | ⟨1, _⟩ => rfl
  right_inv k := rfl

/-- The running sum of a row of 32: the window sum of width 32, padded by 31 zeros in front, is at position `i` the sum
of the row's elements up to and including `i`. -/
theorem running_sum {n : ℕ} (x : FVec Ideal (⟨2, ![n, 32]⟩ : Shape) .f32) {u : Shape} (init : u.Idx → Ideal .f32)
    (h : (⟨2, ![n, 32]⟩ : Shape).ReduceWindows ![1, 32] ![1, 1] ![0, 31] ![0, 0] (⟨2, ![n, 32]⟩ : Shape))
    (hu : 0 < u.numel) (h0 : init (Shape.Idx.first hu) = (0 : EReal)) (r : Fin n) (i : Fin 32) :
    Host.reduceWindowAdd (F := Ideal) ![1, 32] ![1, 1] ![0, 31] ![0, 0] x init h hu (ix2 r i)
      = (∑ k : Fin 32, if k ≤ i then x (ix2 r k) else 0 : EReal) := by
  unfold Host.reduceWindowAdd
  rw [Ideal.hostReduceWindowAdd_def, h0]
  unfold Ideal.hostReduceWindowAdd Host.reduceWindow
  refine (foldl_add _ _ _).trans ?_
  rw [zero_add, ← Fin.sum_univ_def, ← sum_window_end (fun k => x (ix2 r k)) i]
  refine Fintype.sum_equiv ((⟨2, ![1, 32]⟩ : Shape).rowMajor.symm.trans windowCol) _ _ fun w => ?_
  obtain ⟨q, rfl⟩ := (⟨2, ![1, 32]⟩ : Shape).rowMajor.surjective w
  have hc : ((⟨2, ![1, 32]⟩ : Shape).rowMajor.symm.trans windowCol) ((⟨2, ![1, 32]⟩ : Shape).rowMajor q) = windowCol q :=
    congrArg windowCol (Equiv.symm_apply_apply _ q)
  rw [hc]
  have hq : Equiv.symm (⟨2, ![1, 32]⟩ : Shape).rowMajor ((⟨2, ![1, 32]⟩ : Shape).rowMajor q) = q := Equiv.symm_apply_apply _ q
  have hq0 : (q 0).val = 0 := by have := idx2_lt0 q; omega
  have hq1 : (windowCol q).val = (q 1).val := rfl
  by_cases hin : 31 ≤ i.val + (q 1).val ∧ i.val + (q 1).val - 31 < 32
  · have hall : ∀ a : Fin 2, (![0, 31] : Fin 2 → ℕ) a ≤ (ix2 r i a).val * (![1, 1] : Fin 2 → ℕ) a
          + (Equiv.symm (⟨2, ![1, 32]⟩ : Shape).rowMajor ((⟨2, ![1, 32]⟩ : Shape).rowMajor q) a).val
        ∧ (ix2 r i a).val * (![1, 1] : Fin 2 → ℕ) a
          + (Equiv.symm (⟨2, ![1, 32]⟩ : Shape).rowMajor ((⟨2, ![1, 32]⟩ : Shape).rowMajor q) a).val - (![0, 31] : Fin 2 → ℕ) a
            < (⟨2, ![n, 32]⟩ : Shape).size a := by
      rw [hq]
      intro a
      match a with
      | ⟨0, _⟩ => exact ⟨Nat.zero_le _, by show r.val * 1 + (q 0).val - 0 < n; have := r.isLt; omega⟩
      | ⟨1, _⟩ => exact ⟨by show 31 ≤ i.val * 1 + (q 1).val; omega, by show i.val * 1 + (q 1).val - 31 < 32; omega⟩
    refine (dif_pos hall).trans (Eq.trans ?_ (dif_pos hin).symm)
    refine congrArg x (funext fun a => Fin.ext ?_)
    show (ix2 r i a).val * (![1, 1] : Fin 2 → ℕ) a
          + (Equiv.symm (⟨2, ![1, 32]⟩ : Shape).rowMajor ((⟨2, ![1, 32]⟩ : Shape).rowMajor q) a).val - (![0, 31] : Fin 2 → ℕ) a = _
    rw [hq]
    match a with
    | ⟨0, _⟩ => show r.val * 1 + (q 0).val - 0 = r.val; omega
    | ⟨1, _⟩ => show i.val * 1 + (q 1).val - 31 = i.val + (q 1).val - 31; omega
  · have hin' : ¬(31 ≤ i.val + (windowCol q).val ∧ i.val + (windowCol q).val - 31 < 32) := hin
    rw [dif_neg hin']
    refine dif_neg fun hall => hin ?_
    have h1 := hall (1 : Fin 2)
    change 31 ≤ i.val * 1 + (Equiv.symm (⟨2, ![1, 32]⟩ : Shape).rowMajor ((⟨2, ![1, 32]⟩ : Shape).rowMajor q) 1).val
      ∧ i.val * 1 + (Equiv.symm (⟨2, ![1, 32]⟩ : Shape).rowMajor ((⟨2, ![1, 32]⟩ : Shape).rowMajor q) 1).val - 31 < 32 at h1
    rw [hq] at h1
    omega

/-- The host's sum of bits along the last axis counts the set ones. -/
theorem count_last {n b w : ℕ} (p : IVec (⟨3, ![n, b, w]⟩ : Shape) 1) (hw : 1 < 32)
    (h' : (⟨3, ![n, b, w]⟩ : Shape).ReducesTo [2] ⟨2, ![n, b]⟩) (h : (⟨3, ![n, b, w]⟩ : Shape).Reduces [2] ⟨2, ![n, b]⟩)
    {u : Shape} (hu : 0 < u.numel) (r : Fin n) (j : Fin b) :
    Host.reduce IntOp.addi (extui 32 p hw) (constantI u 32 0#32) h' hu (ix2 r j)
      = BitVec.ofNat 32 (Finset.univ.filter fun k : Fin w => p (ix3 r j k) = 1#1).card := by
  rw [Host.reduce_eq_fold_single _ _ _ h' h]
  have hl : ∀ k : Fin w, h.lift (ix2 r j) k = ix3 r j k := by
    intro k
    funext a
    match a with
    | ⟨0, _⟩ => rfl
    | ⟨1, _⟩ => rfl
    | ⟨2, _⟩ => rfl
  refine (IndicatorCount.fold_addi_setWidth_eq_card (w := 32) (fun k : Fin w => p (h.lift (ix2 r j) k)) Finset.univ).trans ?_
  simp only [hl]

/-- The conjunction of bits that are all set is set. -/
theorem and_all {s t u : Shape} {axes : List (Fin s.rank)} (p : s.Idx → BitVec 1) (hp : ∀ i, p i = 1#1)
    (init : u.Idx → BitVec 1) (hi : ∀ i, init i = 1#1) (h : s.ReducesTo axes t) (hu : 0 < u.numel) (j : t.Idx) :
    Host.reduce IntOp.andi p init h hu j = 1#1 := by
  classical
  rw [Host.reduce_eq_fold, hi]
  generalize (Finset.univ.filter fun i => h.drop i = j) = S
  induction S using Finset.induction_on with
  | empty => rfl
  | insert a S ha ih => rw [Finset.fold_insert ha, ih, hp]; decide

/-- The gather's dimension numbers that take one element of each row of an `[n, c]` operand for every one of `b` indices. -/
abbrev rowTake (n c b : ℕ)
    (wf : GatherDims.WF ⟨2, ![n, c]⟩ ⟨3, ![n, b, 1]⟩ ⟨2, ![n, b]⟩ [] [1] [0] [1] [0] 2 ![1, 1]) :
    GatherDims ⟨2, ![n, c]⟩ ⟨3, ![n, b, 1]⟩ ⟨2, ![n, b]⟩ where
  offsetDims := []
  collapsedSliceDims := [1]
  operandBatchingDims := [0]
  startIndicesBatchingDims := [0]
  startIndexMap := [1]
  indexVectorDim := 2
  sliceSizes := ![1, 1]
  wf := wf

/-- Such a gather reads row `r` at the index given for `(r, j)`, where that index is `k`, a position of the row. -/
theorem take_row {α : Type} {n c b : ℕ}
    (wf : GatherDims.WF ⟨2, ![n, c]⟩ ⟨3, ![n, b, 1]⟩ ⟨2, ![n, b]⟩ [] [1] [0] [1] [0] 2 ![1, 1])
    (x : (⟨2, ![n, c]⟩ : Shape).Idx → α) (idx : IVec ⟨3, ![n, b, 1]⟩ 32) (r : Fin n) (j : Fin b) (k : Fin c)
    (hk : (idx (ix3 r j (0 : Fin 1))).toInt.toNat = k.val) :
    Host.gather (rowTake n c b wf) x idx (ix2 r j) = x (ix2 r k) := by
  unfold Host.gather
  refine congrArg x (funext fun a => Fin.ext ?_)
  show (rowTake n c b wf).start (ix2 r j) idx a + (rowTake n c b wf).batchCoord (ix2 r j) a
      + (rowTake n c b wf).offCoord (ix2 r j) a = _
  have hoff : (rowTake n c b wf).offCoord (ix2 r j) a = 0 := GatherDims.offCoord_eq_zero _ _ _ fun hm => by
    have := (GatherDims.mem_sKept _ _).mp hm
    match a with
    | ⟨0, _⟩ => exact this.2 (List.mem_singleton.mpr rfl)
    | ⟨1, _⟩ => exact this.1 (List.mem_singleton.mpr rfl)
  rw [hoff, Nat.add_zero]
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl), Nat.zero_add]
    unfold GatherDims.batchCoord
    exact dif_pos (List.mem_singleton.mpr rfl)
  · rw [GatherDims.batchCoord_eq_zero _ _ _ (fun hm => by simp at hm), Nat.add_zero]
    unfold GatherDims.start
    rw [dif_pos (show (1 : Fin 2) ∈ (rowTake n c b wf).startIndexMap from List.mem_singleton.mpr rfl)]
    have hsi : (rowTake n c b wf).siIdx (ix2 r j) ⟨List.idxOf (1 : Fin 2) (rowTake n c b wf).startIndexMap,
        List.idxOf_lt_length_iff.2 (List.mem_singleton.mpr rfl)⟩ = ix3 r j (0 : Fin 1) := by
      funext z
      refine Fin.ext ?_
      match z with
      | ⟨0, _⟩ => rfl
      | ⟨1, _⟩ => rfl
      | ⟨2, _⟩ => rfl
    rw [hsi, hk]
    show min k.val (c - 1) = k.val
    have := k.isLt
    omega

end Cert.HostOps

end
-- ==== Proof.RefRead.lean ====
/- The reference's four results read at an index. -/
module

public import proofs.«01_k».proof.Proof.Rows
public import proofs.«01_k».proof.Proof.HostOps
public import proofs.«01_k».proof.Proof.Gen.ReferenceIdeal.Read

@[expose] public section

set_option maxRecDepth 16384

noncomputable section

namespace Cert.RefRead

open Idealize.ShloMosaic Idealize.ShloMosaic.ValueIdx
open Cert.ReferenceIdeal Cert.ReferenceIdeal.Gen Cert.ReferenceIdeal.Read Cert.Rows
open scoped BigOperators

/-- Two rank-two indices with equal coordinates are equal. -/
theorem ext2 {n k : ℕ} {p q : (⟨2, ![n, k]⟩ : Shape).Idx} (h0 : (p 0).val = (q 0).val) (h1 : (p 1).val = (q 1).val) : p = q :=
  funext fun a => Fin.ext (match a with | ⟨0, _⟩ => h0 | ⟨1, _⟩ => h1)

/-! ## Words -/

/-- A count of at most 32, kept between 0 and 31, is the lesser of the count and 31. -/
theorem clamp : ∀ c : Fin 33, IntOp.minsi 31#32 (IntOp.maxsi 0#32 (BitVec.ofNat 32 c.val)) = BitVec.ofNat 32 (min c.val 31) := by
  decide

/-- A slot's number is not negative, so it is kept as it is. -/
theorem unwrapped : ∀ b : Fin 32, Scalar.select (IntOp.cmpi .slt (BitVec.ofNat 32 b.val) 0#32)
    (IntOp.addi (BitVec.ofNat 32 b.val) 32#32) (BitVec.ofNat 32 b.val) = BitVec.ofNat 32 b.val := by
  decide

/-- A slot's number lies between 0 and 31. -/
theorem inside : ∀ b : Fin 32, IntOp.andi (IntOp.cmpi .sge (BitVec.ofNat 32 b.val) 0#32)
    (IntOp.cmpi .sle (BitVec.ofNat 32 b.val) 31#32) = 1#1 := by
  decide

/-- A slot's number read as a signed integer. -/
theorem slot_val : ∀ b : Fin 32, (BitVec.ofNat 32 b.val).toInt.toNat = b.val := by decide

/-- A sample's number read as a signed integer. -/
theorem sample_val : ∀ j : Fin 160, (BitVec.ofNat 32 j.val).toInt = j.val := by decide

/-- Whether a sample is one of the first 128. -/
theorem sample_lt : ∀ j : Fin 160, IntOp.cmpi .slt (BitVec.ofNat 32 j.val) 128#32 = if j.val < 128 then 1#1 else 0#1 := by
  decide

/-- The float one half. -/
theorem half : Ideal.ofBits .f32 0x3F000000#32 = ((1 / 2 : ℝ) : EReal) := by
  simp [Ideal.ofBits, Ideal.ieee, -EReal.coe_mul]; norm_num

variable (x0 x1 : (⟨S65536x3, .f32⟩ : BufTy).Contents (Elt Ideal)) (x2 : (⟨S65536x32, .i32⟩ : BufTy).Contents (Elt Ideal))
  (x3 x4 : (⟨S65536x32, .f32⟩ : BufTy).Contents (Elt Ideal)) (r : Fin 65536)

/-! ## Shares -/

/-- The length of a slot. -/
theorem v3_at (i : Fin 32) : val_main_v3 (F := Ideal) x2 x3 x4 (ix2 r i) = Ray.rng (row x2 r) (row x3 r) (row x4 r) i := by
  rw [val_main_v3_apply, val_main_v1_apply, val_main_v0_apply, val_main_c_apply, val_main_call0_v1_apply,
    val_main_call0_v0_apply, val_main_cst_apply, val_main_v2_apply, Ideal.ofBits_def, Ideal.ofBits_zero_f32, Ideal.subf_def]
  unfold Ray.rng row
  by_cases h : x2 (ix2 r i) = 4294967295#32
  · rw [if_pos h, h]; rfl
  · rw [if_neg h]
    have : IntOp.cmpi .eq (x2 (ix2 r i)) 4294967295#32 = 0#1 := by
      show BitVec.ofBool (x2 (ix2 r i) == 4294967295#32) = 0#1
      rw [beq_false_of_ne h]; rfl
    rw [this]; rfl

/-- The length of a whole ray. -/
theorem v4_at : val_main_v4 (F := Ideal) x2 x3 x4 (ix1 r) = Ray.total (row x2 r) (row x3 r) (row x4 r) := by
  rw [val_main_v4_apply, val_main_cst_0_apply, Ideal.ofBits_def, Ideal.ofBits_zero_f32, zero_add]
  refine Finset.sum_congr rfl fun k _ => ?_
  rw [show idx_main_v4 (ix1 r) k = ix2 r k from ext2 rfl rfl, v3_at]

/-- The share of a slot. -/
theorem v7_at (i : Fin 32) : val_main_v7 (F := Ideal) x2 x3 x4 (ix2 r i) = Ray.prob (row x2 r) (row x3 r) (row x4 r) i := by
  rw [val_main_v7_apply, v3_at, val_main_v6_apply, val_main_v5_apply,
    show idx_main_v5 (idx_main_v6 (ix2 r i)) = ix1 r from funext fun a => Fin.ext (match a with | ⟨0, _⟩ => rfl), v4_at,
    Ideal.hostDivf_def]
  rfl

/-- The share of the slots up to a slot. -/
theorem v19_at (i : Fin 32) : val_main_v19 (F := Ideal) x2 x3 x4 (ix2 r i) = Ray.cdf (row x2 r) (row x3 r) (row x4 r) i := by
  unfold val_main_v19
  refine (HostOps.running_sum (val_main_v7 (F := Ideal) x2 x3 x4) _ _ _ ?_ r i).trans ?_
  · rw [val_main_call1_call0_v0_apply, val_main_call1_call0_cst_apply, Ideal.ofBits_def, Ideal.ofBits_zero_f32]
  · unfold Ray.cdf
    exact Finset.sum_congr rfl fun k _ => by rw [v7_at]

/-- The share at which a sample is taken. -/
theorem v18_at (j : Fin 160) : val_main_v18 (F := Ideal) (ix2 r j) = Ray.step j.val := by
  rw [val_main_v18_apply, val_main_v14_apply, val_main_v13_apply, val_main_v12_apply, val_main_v11_apply, val_main_v10_apply,
    val_main_v9_apply, val_main_cst_2_apply, val_main_v17_apply, val_main_v16_apply, val_main_v15_apply, val_main_v8_apply,
    val_main_c_1_apply, Ideal.hostDivf_def, Ideal.addf_def, Ideal.ofBits_def, half]
  show Ideal.div (((((BitVec.ofNat 32 j.val).toInt : ℤ) : ℝ) : EReal) + _) ((((128#32 : BitVec 32).toInt : ℤ) : ℝ) : EReal) = _
  rw [sample_val, show ((128#32 : BitVec 32).toInt) = 128 from by decide, ← EReal.coe_add, Ray.div_coe _ _ (by norm_num)]
  unfold Ray.step
  norm_num

/-! ## The slot of a sample -/

/-- The slot a sample falls in. -/
abbrev slot (j : ℕ) : Fin 32 := Ray.bin (row x2 r) (row x3 r) (row x4 r) (Ray.step j)

/-- How many cumulative shares are at most the sample's. -/
theorem v26_at (j : Fin 160) : val_main_v26 (F := Ideal) x2 x3 x4 (ix2 r j) = BitVec.ofNat 32
    (Finset.univ.filter fun i : Fin 32 => Ray.cdf (row x2 r) (row x3 r) (row x4 r) i ≤ Ray.step j.val).card := by
  unfold val_main_v26 val_main_v25
  refine (HostOps.count_last (val_main_v24 (F := Ideal) x2 x3 x4) _ _ (by decide) _ r j).trans ?_
  refine congrArg (fun s : Finset (Fin 32) => BitVec.ofNat 32 s.card) (Finset.filter_congr fun k _ => ?_)
  rw [val_main_v24_apply, val_main_v22_apply, val_main_v20_apply,
    show idx_main_v20 (idx_main_v22 (ix3 r j k)) = ix2 r k from ext2 rfl rfl, v19_at,
    val_main_v23_apply, val_main_v21_apply, show idx_main_v21 (idx_main_v23 (ix3 r j k)) = ix2 r j from ext2 rfl rfl, v18_at,
    Ideal.cmpf_def]
  by_cases hc : Ray.cdf (row x2 r) (row x3 r) (row x4 r) k ≤ Ray.step j.val <;> simp [Ideal.cmp, hc]

/-- The number of the slot a sample falls in. -/
theorem v27_at (j : Fin 160) : val_main_v27 (F := Ideal) x2 x3 x4 (ix2 r j) = BitVec.ofNat 32 (slot x2 x3 x4 r j.val).val := by
  rw [val_main_v27_apply, val_main_call2_v4_apply, val_main_call2_v3_apply, val_main_c_5_apply, val_main_call2_v2_apply,
    val_main_call2_v1_apply, val_main_call2_v0_apply, val_main_c_4_apply, v26_at]
  show _ = BitVec.ofNat 32 (min (Finset.univ.filter fun i : Fin 32 =>
    Ray.cdf (row x2 r) (row x3 r) (row x4 r) i ≤ Ray.step j.val).card 31)
  have hc := (Finset.card_le_univ (Finset.univ.filter fun i : Fin 32 =>
    Ray.cdf (row x2 r) (row x3 r) (row x4 r) i ≤ Ray.step j.val)).trans (le_of_eq (Fintype.card_fin 32))
  generalize (Finset.univ.filter fun i : Fin 32 => Ray.cdf (row x2 r) (row x3 r) (row x4 r) i ≤ Ray.step j.val).card = c at hc ⊢
  exact clamp ⟨c, Nat.lt_succ_of_le hc⟩

/-- The start index of every take is the slot's number. -/
theorem start_at (j : Fin 160) : val_main_call3_v5 (F := Ideal) x2 x3 x4 (ix3 r j (0 : Fin 1))
    = BitVec.ofNat 32 (slot x2 x3 x4 r j.val).val := by
  rw [val_main_call3_v5_apply, show idx_main_call3_v5 (ix3 r j (0 : Fin 1)) = ix2 r j from
      ext2 (by have := j.isLt; show ((r.val * 160 + j.val) * 1 + 0) / 160 = r.val; omega)
        (by have := j.isLt; show ((r.val * 160 + j.val) * 1 + 0) % 160 = j.val; omega),
    val_main_call3_v4_apply, val_main_call3_v1_apply, val_main_call3_v0_apply, val_main_call3_c_apply,
    val_main_call3_v3_apply, val_main_call3_v2_apply, val_main_call3_c_0_apply, v27_at]
  exact unwrapped _

/-- No take is out of range. -/
theorem range_at (i : S65536x160.Idx) : val_main_call3_v12 (F := Ideal) x2 x3 x4 i = 1#1 := by
  unfold val_main_call3_v12
  refine HostOps.and_all _ (fun y => ?_) _ (fun _ => rfl) _ _ i
  obtain ⟨r, j, hy⟩ : ∃ (r : Fin 65536) (j : Fin 160), y = ix3 r j (0 : Fin 1) := by
    refine ⟨y 0, y 1, funext fun a => Fin.ext ?_⟩
    match a with
    | ⟨0, _⟩ => rfl
    | ⟨1, _⟩ => rfl
    | ⟨2, _⟩ => exact Nat.lt_one_iff.mp (y 2).isLt
  rw [hy, val_main_call3_v11_apply, val_main_call3_v7_apply, val_main_call3_v6_apply, val_main_call3_c_2_apply,
    val_main_call3_v10_apply, val_main_call3_v9_apply, val_main_call3_v8_apply, val_main_call3_c_1_apply, start_at]
  exact inside _

/-- A take reads the sample's slot. -/
theorem taken {α : Type} (x z : _ → α) (j : Fin 160) :
    select (val_main_call3_v12 (F := Ideal) x2 x3 x4)
      (Host.gather gather_S65536x32_S65536x160x1_S65536x160_n_1_0_0_1_2_11 x (val_main_call3_v5 (F := Ideal) x2 x3 x4)) z (ix2 r j)
      = x (ix2 r (slot x2 x3 x4 r j.val)) := by
  rw [select_apply, range_at, select_one]
  exact HostOps.take_row _ x _ r j _ (by rw [start_at, slot_val])

/-- The share before a slot. -/
theorem v30_at (i : Fin 32) : val_main_v30 (F := Ideal) x2 x3 x4 (ix2 r i) = Ray.prev (row x2 r) (row x3 r) (row x4 r) i := by
  unfold val_main_v30 Ray.prev
  by_cases hi : i.val = 0
  · rw [dif_pos hi]
    refine (concatenate_pair_apply_left (s₁ := ⟨2, ![65536, 1]⟩) (s₂ := ⟨2, ![65536, 31]⟩) _ _ _ _ (ix2 r i) rfl (ix2 r (0 : Fin 1)) ?_).trans ?_
    · intro b
      match b with
      | ⟨0, _⟩ => rfl
      | ⟨1, _⟩ => exact hi.symm
    · rw [val_main_v28_apply, val_main_cst_6_apply, Ideal.ofBits_def, Ideal.ofBits_zero_f32]
  · rw [dif_neg hi]
    have hlt : i.val - 1 < 31 := by have := i.isLt; omega
    refine (concatenate_pair_apply_right (s₁ := ⟨2, ![65536, 1]⟩) (s₂ := ⟨2, ![65536, 31]⟩) _ _ _ _ (ix2 r i) rfl rfl (ix2 r (⟨i.val - 1, hlt⟩ : Fin 31)) ?_ ?_).trans ?_
    · intro b hb
      match b with
      | ⟨0, _⟩ => rfl
      | ⟨1, _⟩ => exact absurd rfl hb
    · show i.val - 1 + 1 = i.val
      omega
    · rw [val_main_v29_apply, show idx_main_v29 (ix2 r (⟨i.val - 1, hlt⟩ : Fin 31)) = ix2 r (⟨i.val - 1, by omega⟩ : Fin 32) from
        ext2 rfl rfl, v19_at]

/-- The depth of a sample before the choice of the first 128. -/
theorem v41_at (j : Fin 160) : val_main_v41 (F := Ideal) x2 x3 x4 (ix2 r j)
    = Ray.raw (row x2 r) (row x3 r) (row x4 r) (Ray.step j.val) := by
  have h31 : val_main_v31 (F := Ideal) x2 x3 x4 (ix2 r j) = _ := taken x2 x3 x4 r (val_main_v30 (F := Ideal) x2 x3 x4) _ j
  have h32 : val_main_v32 (F := Ideal) x2 x3 x4 (ix2 r j) = _ := taken x2 x3 x4 r (val_main_v7 (F := Ideal) x2 x3 x4) (val_main_call4_v14 (F := Ideal)) j
  have h33 : val_main_v33 (F := Ideal) x2 x3 x4 (ix2 r j) = _ := taken x2 x3 x4 r x3 (val_main_call5_v14 (F := Ideal)) j
  have h34 : val_main_v34 (F := Ideal) x2 x3 x4 (ix2 r j) = _ := taken x2 x3 x4 r x4 (val_main_call6_v14 (F := Ideal)) j
  rw [val_main_v41_apply, val_main_v40_apply, val_main_v38_apply, val_main_v35_apply, val_main_v37_apply, val_main_v36_apply,
    val_main_cst_7_apply, val_main_v39_apply, h31, h32, h33, h34, v18_at, v30_at, v7_at]
  rfl

/-- The voxel of a sample before the choice of the first 128. -/
theorem v42_at (j : Fin 160) : val_main_v42 (F := Ideal) x2 x3 x4 (ix2 r j) = row x2 r (slot x2 x3 x4 r j.val) :=
  taken x2 x3 x4 r x2 (val_main_call7_v14 (F := Ideal)) j

/-! ## The four results -/

/-- Whether a sample is one of the first 128. -/
theorem v48_at (j : Fin 160) : val_main_v48 (F := Ideal) (ix2 r j) = if j.val < 128 then 1#1 else 0#1 := by
  rw [val_main_v48_apply, val_main_v46_apply, val_main_v44_apply, val_main_v43_apply, val_main_v47_apply, val_main_v45_apply,
    val_main_v8_apply, val_main_c_1_apply]
  exact sample_lt j

/-- A choice by a bit that says whether a number is below 128. -/
theorem choose_lt {α : Type} (n : ℕ) (a b : α) : Scalar.select (if n < 128 then 1#1 else 0#1) a b = if n < 128 then a else b := by
  by_cases h : n < 128
  · rw [if_pos h, if_pos h]; rfl
  · rw [if_neg h, if_neg h]; rfl

/-- The depth after a sample among the first 128. -/
theorem v51_at (j : Fin 160) (hj : j.val < 128) : val_main_v51 (F := Ideal) x2 x3 x4 (ix2 r j)
    = Ray.raw (row x2 r) (row x3 r) (row x4 r) (Ray.step (j.val + 1)) := by
  unfold val_main_v51
  refine (concatenate_pair_apply_left (s₁ := ⟨2, ![65536, 159]⟩) (s₂ := ⟨2, ![65536, 1]⟩) _ _ _ _ (ix2 r j) rfl (ix2 r (⟨j.val, by omega⟩ : Fin 159)) ?_).trans ?_
  · intro b
    match b with
    | ⟨0, _⟩ => rfl
    | ⟨1, _⟩ => rfl
  · rw [val_main_v49_apply, show idx_main_v49 (ix2 r (⟨j.val, by omega⟩ : Fin 159)) = ix2 r (⟨j.val + 1, by omega⟩ : Fin 160) from
      ext2 rfl (Nat.add_comm 1 j.val), v41_at]

/-- The depth before a sample; before the first it is the first's own. -/
theorem v54_at (j : Fin 160) : val_main_v54 (F := Ideal) x2 x3 x4 (ix2 r j)
    = Ray.raw (row x2 r) (row x3 r) (row x4 r) (Ray.step (j.val - 1)) := by
  unfold val_main_v54
  by_cases h0 : j.val = 0
  · refine (concatenate_pair_apply_left (s₁ := ⟨2, ![65536, 1]⟩) (s₂ := ⟨2, ![65536, 159]⟩) _ _ _ _ (ix2 r j) rfl (ix2 r (0 : Fin 1)) ?_).trans ?_
    · intro b
      match b with
      | ⟨0, _⟩ => rfl
      | ⟨1, _⟩ => exact h0.symm
    · rw [val_main_v52_apply, show idx_main_v52 (ix2 r (0 : Fin 1)) = ix2 r (⟨j.val - 1, by omega⟩ : Fin 160) from
        ext2 rfl (show 0 = j.val - 1 by omega), v41_at]
  · have hlt : j.val - 1 < 159 := by have := j.isLt; omega
    refine (concatenate_pair_apply_right (s₁ := ⟨2, ![65536, 1]⟩) (s₂ := ⟨2, ![65536, 159]⟩) _ _ _ _ (ix2 r j) rfl rfl (ix2 r (⟨j.val - 1, hlt⟩ : Fin 159)) ?_ ?_).trans ?_
    · intro b hb
      match b with
      | ⟨0, _⟩ => rfl
      | ⟨1, _⟩ => exact absurd rfl hb
    · show j.val - 1 + 1 = j.val
      omega
    · rw [val_main_v53_apply, show idx_main_v53 (ix2 r (⟨j.val - 1, hlt⟩ : Fin 159)) = ix2 r (⟨j.val - 1, by omega⟩ : Fin 160) from
        ext2 rfl rfl, v41_at]

/-- The reference's voxels. -/
theorem voxels_eq : val_main_v59 (F := Ideal) x2 x3 x4 = voxels (n := 65536) x2 x3 x4 := by
  funext y
  obtain ⟨r, j, rfl⟩ : ∃ (r : Fin 65536) (j : Fin 160), y = ix2 r j := ⟨y 0, y 1, eq_ix2 y⟩
  rw [val_main_v59_apply, v48_at, choose_lt, v42_at, val_main_call9_v1_apply, val_main_call9_v0_apply, val_main_c_10_apply]
  rfl

/-- The reference's depths at an index. -/
theorem depth_at (j : Fin 160) : val_main_v60 (F := Ideal) x2 x3 x4 (ix2 r j)
    = Ray.depth (row x2 r) (row x3 r) (row x4 r) j.val := by
  rw [val_main_v60_apply, v48_at, choose_lt, v41_at, val_main_call10_v1_apply, val_main_call10_v0_apply, val_main_cst_11_apply]
  rfl

/-- The reference's depths. -/
theorem depths_eq : val_main_v60 (F := Ideal) x2 x3 x4 = depths (n := 65536) x2 x3 x4 := by
  funext y
  obtain ⟨r, j, rfl⟩ : ∃ (r : Fin 65536) (j : Fin 160), y = ix2 r j := ⟨y 0, y 1, eq_ix2 y⟩
  exact depth_at x2 x3 x4 r j

/-- The reference's lengths. -/
theorem lengths_eq : val_main_v61 (F := Ideal) x2 x3 x4 = lengths (n := 65536) x2 x3 x4 := by
  funext y
  obtain ⟨r, j, rfl⟩ : ∃ (r : Fin 65536) (j : Fin 160), y = ix2 r j := ⟨y 0, y 1, eq_ix2 y⟩
  rw [val_main_v61_apply, v48_at, choose_lt, val_main_call11_v1_apply, val_main_call11_v0_apply, val_main_cst_12_apply,
    Ideal.ofBits_def, Ideal.ofBits_zero_f32]
  show _ = Ray.dist (row x2 r) (row x3 r) (row x4 r) j.val
  unfold Ray.dist
  by_cases hj : j.val < 128
  · rw [if_pos hj, if_pos hj, val_main_v58_apply, val_main_call8_v1_apply, val_main_call8_v0_apply, val_main_cst_9_apply,
      val_main_v57_apply, val_main_v55_apply, val_main_v56_apply, val_main_cst_8_apply, v51_at x2 x3 x4 r j hj, v54_at,
      Ideal.ofBits_def, Ideal.ofBits_zero_f32, Ideal.maximumf_def, Ideal.mulf_def, Ideal.subf_def]
    exact max_comm _ _
  · rw [if_neg hj, if_neg hj]

/-- The reference's points. -/
theorem points_eq : val_main_v69 (F := Ideal) x0 x1 x2 x3 x4 = points (n := 65536) x0 x1 x2 x3 x4 := by
  funext y
  obtain ⟨r, j, a, rfl⟩ : ∃ (r : Fin 65536) (j : Fin 160) (a : Fin 3), y = ix3 r j a := ⟨y 0, y 1, y 2, eq_ix3 y⟩
  rw [val_main_v69_apply, val_main_v68_apply, val_main_v62_apply, val_main_v67_apply, val_main_v65_apply, val_main_v63_apply,
    val_main_v66_apply, val_main_v64_apply, Ideal.addf_def, Ideal.mulf_def,
    show idx_main_v62 (idx_main_v68 (ix3 r j a)) = ix2 r a from ext2 rfl rfl,
    show idx_main_v64 (idx_main_v66 (ix3 r j a)) = ix2 r a from ext2 rfl rfl,
    show idx_main_v63 (idx_main_v65 (ix3 r j a)) = ix2 r j from ext2 rfl rfl, depth_at]
  rfl

end Cert.RefRead

end
-- ==== Proof.Order.lean ====
/- What the precondition says of a ray. -/
module

public import proofs.«01_k».proof.Defs
public import proofs.«01_k».proof.Proof.Rows
public import Idealize.ShloMosaic.PureOps.Ideal.Laws

@[expose] public section

noncomputable section

namespace Cert.Order

open Idealize.ShloMosaic Idealize.ShloMosaic.ValueIdx

/-- A conjunction of two bits that is set has both bits set. -/
theorem both : ∀ a b : BitVec 1, IntOp.andi a b = 1#1 → a = 1#1 ∧ b = 1#1 := by decide

/-- A disjunction of two bits that is set has one of them set. -/
theorem either : ∀ a b : BitVec 1, IntOp.ori a b = 1#1 → a = 1#1 ∨ b = 1#1 := by decide

/-- A comparison's bit is set only if the comparison holds. -/
theorem holds_of_bit {p : Bool} (h : BitVec.ofBool p = 1#1) : p = true := by
  cases p
  · exact absurd h (by decide)
  · rfl

/-- The float infinity. -/
theorem infinity : Ideal.ofBits .f32 0x7F800000#32 = ⊤ := by simp [Ideal.ofBits, Ideal.ieee]

/-- A number whose absolute value is below infinity is real. -/
theorem real_of_bit (x : EReal) (h : Ideal.cmp .olt (max x (-x)) (Ideal.ofBits .f32 0x7F800000#32) = 1#1) : ∃ a : ℝ, x = a := by
  have hlt : max x (-x) < ⊤ := by
    rw [infinity] at h
    exact of_decide_eq_true (holds_of_bit h)
  induction x using EReal.rec with
  | bot => simp at hlt
  | coe a => exact ⟨a, rfl⟩
  | top => simp at hlt

/-- The side condition of the precondition's broadcasts. -/
theorem facts : Cert.Pre_segments_ordered.Facts := ⟨by decide⟩

/-- Where the precondition's bit is set on every slot, every ray is ordered. -/
theorem ordered [Cert.Pre_segments_ordered.Facts] (x0 x1 : (⟨2, ![65536, 3]⟩ : Shape).Idx → EReal)
    (x2 : (⟨2, ![65536, 32]⟩ : Shape).Idx → BitVec 32) (x3 x4 : (⟨2, ![65536, 32]⟩ : Shape).Idx → EReal)
    (h : Cert.Pre_segments_ordered.fn (F := Ideal) x0 x1 x2 x3 x4 = fun _ => 1#1) (r : Fin 65536) :
    Ray.Ordered (Rows.row x2 r) (Rows.row x3 r) (Rows.row x4 r) := by
  have key : ∀ i : Fin 32, (∃ a : ℝ, x3 (ix2 r i) = a) ∧ (∃ b : ℝ, x4 (ix2 r i) = b)
      ∧ (x2 (ix2 r i) ≠ 4294967295#32 → x3 (ix2 r i) ≤ x4 (ix2 r i)) := by
    intro i
    have hi : IntOp.andi (IntOp.andi
          (Ideal.cmp .olt (max (x3 (ix2 r i)) (-x3 (ix2 r i))) (Ideal.ofBits .f32 0x7F800000#32))
          (Ideal.cmp .olt (max (x4 (ix2 r i)) (-x4 (ix2 r i))) (Ideal.ofBits .f32 0x7F800000#32)))
        (IntOp.ori (IntOp.cmpi .eq (x2 (ix2 r i)) 4294967295#32) (Ideal.cmp .ole (x3 (ix2 r i)) (x4 (ix2 r i)))) = 1#1 :=
      congrFun h (ix2 r i)
    obtain ⟨hab, hc⟩ := both _ _ hi
    obtain ⟨ha, hb⟩ := both _ _ hab
    refine ⟨real_of_bit _ ha, real_of_bit _ hb, fun hne => ?_⟩
    rcases either _ _ hc with he | hle
    · exact absurd (beq_iff_eq.mp (holds_of_bit he)) hne
    · exact of_decide_eq_true (holds_of_bit hle)
  exact ⟨fun i => (key i).1, fun i => (key i).2.1, fun i => (key i).2.2⟩

end Cert.Order

end
-- ==== Proof.lean ====
/- The kernel's claim: the three programs run and leave their arguments unchanged, and the kernel's four
   results are the reference's.  Both are the specification of `Proof/Ray.lean` read ray by ray:
   `Proof/Results.lean` has the kernel's side, `Proof/RefRead.lean` the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import proofs.«01_k».proof.Proof.RefRead
public import proofs.«01_k».proof.Proof.Order
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, leaves its arguments unchanged and, naming no semaphore, ends with every counter at zero. -/
theorem reference_frame [Cert.ReferenceIdeal.Facts] : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

section Kernel

open Cert.KernelIdeal Cert.KernelIdeal.Gen Cert.Results

/-- On ordered rays the kernel runs, ends with the specification's four arrays and leaves its arguments unchanged. -/
theorem kernel_run (m : (ℓ : Loc nD τ sig) → Buf (Elt Ideal) ℓ) (ρ : Dev nD → PrngReg) (hm : ∀ c, Ordered m c) :
    θ_run (defs (F := Ideal)) (onTc (τ := τ) (main (F := Ideal))) ⟨m, fun _ => 0, ρ⟩ fun r => ∀ c : Dev nD,
      r.2.mem ((c.tc : Thread nD τ).loc main_v7) = Rows.points (n := 65536) (arg0 m c) (arg1 m c) (arg2 m c) (arg3 m c) (arg4 m c)
      ∧ r.2.mem ((c.tc : Thread nD τ).loc main_v8) = Rows.voxels (n := 65536) (arg2 m c) (arg3 m c) (arg4 m c)
      ∧ r.2.mem ((c.tc : Thread nD τ).loc main_v9) = Rows.depths (n := 65536) (arg2 m c) (arg3 m c) (arg4 m c)
      ∧ r.2.mem ((c.tc : Thread nD τ).loc main_v10) = Rows.lengths (n := 65536) (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v7 (Pipeline.mem_restRefs_of main_v7 (by decide) (by decide))).trans (points_end m c (hm c)),
     ((h c).2 main_v8 (Pipeline.mem_restRefs_of main_v8 (by decide) (by decide))).trans (voxels_end m c (hm c)),
     ((h c).2 main_v9 (Pipeline.mem_restRefs_of main_v9 (by decide) (by decide))).trans (depths_end m c (hm c)),
     ((h c).2 main_v10 (Pipeline.mem_restRefs_of main_v10 (by decide) (by decide))).trans (lengths_end m c (hm c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Kernel

section Reference

open Cert.ReferenceIdeal Cert.ReferenceIdeal.Gen Idealize.ShloMosaic.StableHlo

/-- The reference runs, ends with the specification's four arrays and leaves its arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69) = Rows.points (n := 65536) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v59) = Rows.voxels (n := 65536) (m ((c.tc : Thread nD τ).loc main_arg2))
          (m ((c.tc : Thread nD τ).loc main_arg3)) (m ((c.tc : Thread nD τ).loc main_arg4))
      ∧ r.2.mem ((c.tc : Thread nD τ).loc main_v60) = Rows.depths (n := 65536) (m ((c.tc : Thread nD τ).loc main_arg2))
          (m ((c.tc : Thread nD τ).loc main_arg3)) (m ((c.tc : Thread nD τ).loc main_arg4))
      ∧ r.2.mem ((c.tc : Thread nD τ).loc main_v61) = Rows.lengths (n := 65536) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1.trans (Read.val_main_v69_eq (F := Ideal) (launchContents m c))).trans (RefRead.points_eq _ _ _ _ _),
     ((h c).2.1.trans (Read.val_main_v59_eq (F := Ideal) (launchContents m c))).trans (RefRead.voxels_eq _ _ _),
     ((h c).2.2.1.trans (Read.val_main_v60_eq (F := Ideal) (launchContents m c))).trans (RefRead.depths_eq _ _ _),
     ((h c).2.2.2.1.trans (Read.val_main_v61_eq (F := Ideal) (launchContents m c))).trans (RefRead.lengths_eq _ _ _),
     (h c).2.2.2.2⟩)
    (Value.run (F := Ideal) m ρ)

end Reference

/-- On ordered rays the kernel and the reference end with the same four arrays. -/
theorem algebraic [hPre : Cert.Pre_segments_ordered.Facts] :
    Cert.algebraic_KernelIdeal_ReferenceIdeal_pre_segments_ordered := by
  intro m g m' g' hpre hargs
  have hm : ∀ c, Results.Ordered m c := fun c => Order.ordered _ _ _ _ _ (hpre c)
  refine ⟨_, _, _, _, kernel_run m g hm, (θ_run Cert.ReferenceIdeal.defs _ _).mono (fun r h c => ?_) (reference_run m' g')⟩
  obtain ⟨h0, h1, h2, h3, h4⟩ := hargs c
  obtain ⟨hp, hv, hd, hl, hrest⟩ := h c
  refine ⟨hp.trans ?_, hv.trans ?_, hd.trans ?_, hl.trans ?_, hrest⟩
  · rw [h0, h1, h2, h3, h4]
  all_goals rw [h2, h3, h4]

/-- The claim. -/
theorem claim : Cert.Claim :=
  ⟨Cert.Kernel.Gen.facts, Cert.KernelIdeal.Gen.facts, Cert.ReferenceIdeal.Gen.facts, Order.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic (hPre := Order.facts)⟩

end Cert.Proof

end
